-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S1024x512 : Shape := ⟨2, ![1024, 512]⟩
abbrev S4 : Shape := ⟨1, ![4]⟩
abbrev S_ : Shape := ⟨0, ![]⟩
abbrev S1 : Shape := ⟨1, ![1]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .local _ .vmem, ⟨0, _⟩ => ⟨S512x512, .f32⟩
  | .local _ .vmem, ⟨1, _⟩ => ⟨S1024x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v24 : BitVec 32 := Scalar.muli v9 c4_i32_12
  let v25 : BitVec 32 := Scalar.addi c0_i32_13 v24
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v26 : BitVec 32 := Scalar.muli v5 c2_i32_14
  let v27 : BitVec 32 := Scalar.addi v25 v26
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v28 : BitVec 32 := Scalar.muli v8 c1_i32_15
  let v29 : BitVec 32 := Scalar.addi v27 v28
  v29.toNat
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v30 : BitVec 32 := Scalar.muli v2 c4_i32_17
  let v31 : BitVec 32 := Scalar.addi c0_i32_18 v30
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_9 v5
  let c2_i32_19 : BitVec 32 := 2#32
  let v32 : BitVec 32 := Scalar.muli v21 c2_i32_19
  let v33 : BitVec 32 := Scalar.addi v31 v32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v34 : BitVec 32 := Scalar.muli v8 c1_i32_20
  let v35 : BitVec 32 := Scalar.addi v33 v34
  v35.toNat
def k0_dev3 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v36 : BitVec 32 := Scalar.muli v2 c4_i32_22
  let v37 : BitVec 32 := Scalar.addi c0_i32_23 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_24 : BitVec 32 := 2#32
  let v38 : BitVec 32 := Scalar.muli v5 c2_i32_24
  let v39 : BitVec 32 := Scalar.addi v37 v38
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_10 v8
  let c1_i32_25 : BitVec 32 := 1#32
  let v40 : BitVec 32 := Scalar.muli v22 c1_i32_25
  let v41 : BitVec 32 := Scalar.addi v39 v40
  v41.toNat
def k0_off1 (d0 : Dev nD) (c0_i32_26 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v42 : BitVec 32 := Scalar.muli v2 c512_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v5 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v43 : BitVec 32 := Scalar.muli v20 c256_i32
  let v44 : BitVec 32 := Scalar.addi v42 v43
  let v45 : BitVec 32 := Scalar.addi v44 c0_i32_26
  let c0_i32_35 : BitVec 32 := 0#32
  ![v45.toNat, 0]
def k0_off2 (d0 : Dev nD) (c0_i32_28 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v5 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32_27 : BitVec 32 := 256#32
  let v46 : BitVec 32 := Scalar.muli v20 c256_i32_27
  let v47 : BitVec 32 := Scalar.addi v46 c0_i32_28
  let c0_i32_36 : BitVec 32 := 0#32
  ![v47.toNat, 0]
def k0_dev4 (d0 : Dev nD) : Nat :=
  let c0_i32_32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_31 : BitVec 32 := 4#32
  let v48 : BitVec 32 := Scalar.muli v9 c4_i32_31
  let v49 : BitVec 32 := Scalar.addi c0_i32_32 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v50 : BitVec 32 := Scalar.muli v5 c2_i32_33
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_34 : BitVec 32 := 1#32
  let v52 : BitVec 32 := Scalar.muli v8 c1_i32_34
  let v53 : BitVec 32 := Scalar.addi v51 v52
  v53.toNat
def k0_dev5 (d0 : Dev nD) : Nat :=
  let c0_i32_44 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_43 : BitVec 32 := 4#32
  let v66 : BitVec 32 := Scalar.muli v9 c4_i32_43
  let v67 : BitVec 32 := Scalar.addi c0_i32_44 v66
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_45 : BitVec 32 := 2#32
  let v68 : BitVec 32 := Scalar.muli v5 c2_i32_45
  let v69 : BitVec 32 := Scalar.addi v67 v68
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v70 : BitVec 32 := Scalar.muli v8 c1_i32_46
  let v71 : BitVec 32 := Scalar.addi v69 v70
  v71.toNat
def k0_dev6 (d0 : Dev nD) : Nat :=
  let c0_i32_56 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_55 : BitVec 32 := 4#32
  let v84 : BitVec 32 := Scalar.muli v9 c4_i32_55
  let v85 : BitVec 32 := Scalar.addi c0_i32_56 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v86 : BitVec 32 := Scalar.muli v5 c2_i32_57
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v88 : BitVec 32 := Scalar.muli v8 c1_i32_58
  let v89 : BitVec 32 := Scalar.addi v87 v88
  v89.toNat
def k0_dev7 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v102 : BitVec 32 := Scalar.muli v9 c4_i32_67
  let v103 : BitVec 32 := Scalar.addi c0_i32_68 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v104 : BitVec 32 := Scalar.muli v5 c2_i32_69
  let v105 : BitVec 32 := Scalar.addi v103 v104
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v106 : BitVec 32 := Scalar.muli v8 c1_i32_70
  let v107 : BitVec 32 := Scalar.addi v105 v106
  v107.toNat
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32_74 : BitVec 32 := 512#32
  let v116 : BitVec 32 := Scalar.muli v2 c512_i32_74
  let v117 : Index := Scalar.indexCast v116
  let c0_75 : Index := 0#32
  ![v117.toNat, 0]
def k0_off4 (d0 : Dev nD) (c0_i32_78 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_76 : BitVec 32 := 512#32
  let v119 : BitVec 32 := Scalar.muli v9 c512_i32_76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v5 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32_77 : BitVec 32 := 256#32
  let v120 : BitVec 32 := Scalar.muli v20 c256_i32_77
  let v121 : BitVec 32 := Scalar.addi v119 v120
  let v122 : BitVec 32 := Scalar.addi v121 c0_i32_78
  let c0_i32_93 : BitVec 32 := 0#32
  ![v122.toNat, 0]
def k0_dev8 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v133 : BitVec 32 := Scalar.muli v2 c4_i32_89
  let v134 : BitVec 32 := Scalar.addi c0_i32_90 v133
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_9 v5
  let c2_i32_91 : BitVec 32 := 2#32
  let v135 : BitVec 32 := Scalar.muli v21 c2_i32_91
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v137 : BitVec 32 := Scalar.muli v8 c1_i32_92
  let v138 : BitVec 32 := Scalar.addi v136 v137
  v138.toNat
def k0_dev9 (d0 : Dev nD) : Nat :=
  let c0_i32_109 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_108 : BitVec 32 := 4#32
  let v159 : BitVec 32 := Scalar.muli v2 c4_i32_108
  let v160 : BitVec 32 := Scalar.addi c0_i32_109 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v161 : BitVec 32 := Scalar.muli v5 c2_i32_110
  let v162 : BitVec 32 := Scalar.addi v160 v161
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_10 v8
  let c1_i32_111 : BitVec 32 := 1#32
  let v163 : BitVec 32 := Scalar.muli v22 c1_i32_111
  let v164 : BitVec 32 := Scalar.addi v162 v163
  v164.toNat
def k0_dev10 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v185 : BitVec 32 := Scalar.muli v2 c4_i32_127
  let v186 : BitVec 32 := Scalar.addi c0_i32_128 v185
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v21 : BitVec 32 := Scalar.subi c1_i32_9 v5
  let c2_i32_129 : BitVec 32 := 2#32
  let v187 : BitVec 32 := Scalar.muli v21 c2_i32_129
  let v188 : BitVec 32 := Scalar.addi v186 v187
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_130 : BitVec 32 := 1#32
  let v189 : BitVec 32 := Scalar.muli v8 c1_i32_130
  let v190 : BitVec 32 := Scalar.addi v188 v189
  v190.toNat
def k0_dev11 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v211 : BitVec 32 := Scalar.muli v2 c4_i32_146
  let v212 : BitVec 32 := Scalar.addi c0_i32_147 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v213 : BitVec 32 := Scalar.muli v5 c2_i32_148
  let v214 : BitVec 32 := Scalar.addi v212 v213
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_10 v8
  let c1_i32_149 : BitVec 32 := 1#32
  let v215 : BitVec 32 := Scalar.muli v22 c1_i32_149
  let v216 : BitVec 32 := Scalar.addi v214 v215
  v216.toNat
def k0_off5 (d0 : Dev nD) (c0_i32_155 : BitVec 32) : Fin 2 → Nat :=
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c512_i32_152 : BitVec 32 := 512#32
  let v223 : BitVec 32 := Scalar.muli v9 c512_i32_152
  let c1_i32_153 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v5 v8
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v224 : BitVec 32 := Scalar.subi c1_i32_153 v20
  let c256_i32_154 : BitVec 32 := 256#32
  let v225 : BitVec 32 := Scalar.muli v224 c256_i32_154
  let v226 : BitVec 32 := Scalar.addi v223 v225
  let v227 : BitVec 32 := Scalar.addi v226 c0_i32_155
  let c0_i32_162 : BitVec 32 := 0#32
  ![v227.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Rows.lean ====
/- The all-gather's geometry: the three neighbours of a device on the 2 × 2 × 2 mesh, the rows its transfers read and
   write, and what its result holds. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit

@[expose] public section

noncomputable section

namespace Cert.Gather

open Cert.KernelIdeal Cert.KernelIdeal.Gen
open Idealize.ShloMosaic Idealize.ShloMosaic.TcCoe

/-! ## The neighbours -/

/-- The device across axis x: the other block of the array. -/
def xp (c : Dev nD) : Dev nD := ⟨(c.val + 4) % 8, Nat.mod_lt _ (by decide)⟩
/-- The device across axis y. -/
def yn (c : Dev nD) : Dev nD := ⟨4 * (c.val / 4) + (c.val + 2) % 4, by have := c.isLt; change c.val < 8 at this; change _ < 8; omega⟩
/-- The device across axis z. -/
def zn (c : Dev nD) : Dev nD := ⟨2 * (c.val / 2) + (c.val + 1) % 2, by have := c.isLt; change c.val < 8 at this; change _ < 8; omega⟩
/-- To whom a device forwards its chunk `j`: even chunks along y, odd ones along z. -/
def nb (c : Dev nD) (j : ℕ) : Dev nD := if j % 2 = 0 then yn c else zn c

/-- The neighbours along y and z are on the device's own side of axis x. -/
theorem nb_side (c : Dev nD) (j : ℕ) : (nb c j).val / 4 = c.val / 4 := by
  have hc : c.val < 8 := c.isLt
  unfold nb
  split
  · show (4 * (c.val / 4) + (c.val + 2) % 4) / 4 = c.val / 4
    omega
  · show (2 * (c.val / 2) + (c.val + 1) % 2) / 4 = c.val / 4
    omega

/-- Crossing axis x twice leads back, -/
theorem xp_xp (c : Dev nD) : xp (xp c) = c := by revert c; decide
/-- and so it does for y -/
theorem yn_yn (c : Dev nD) : yn (yn c) = c := by revert c; decide
/-- and for z. -/
theorem zn_zn (c : Dev nD) : zn (zn c) = c := by revert c; decide

/-- The program's device numbers. The first signal goes across x, -/
theorem dev1_eq (c : Dev nD) : (⟨k0_dev1 c, k0_dev1_lt c⟩ : Dev nD) = xp c := by revert c; decide
/-- the second across y, -/
theorem dev2_eq (c : Dev nD) : (⟨k0_dev2 c, k0_dev2_lt c⟩ : Dev nD) = yn c := by revert c; decide
/-- the third across z; -/
theorem dev3_eq (c : Dev nD) : (⟨k0_dev3 c, k0_dev3_lt c⟩ : Dev nD) = zn c := by revert c; decide
/-- chunk 0 is sent across x, -/
theorem dev4_eq (c : Dev nD) : (⟨k0_dev4 c, k0_dev4_lt c⟩ : Dev nD) = xp c := by revert c; decide
/-- and so is chunk 1, -/
theorem dev5_eq (c : Dev nD) : (⟨k0_dev5 c, k0_dev5_lt c⟩ : Dev nD) = xp c := by revert c; decide
/-- chunk 2 -/
theorem dev6_eq (c : Dev nD) : (⟨k0_dev6 c, k0_dev6_lt c⟩ : Dev nD) = xp c := by revert c; decide
/-- and chunk 3; -/
theorem dev7_eq (c : Dev nD) : (⟨k0_dev7 c, k0_dev7_lt c⟩ : Dev nD) = xp c := by revert c; decide
/-- chunk 0 is forwarded to the neighbour it is for, -/
theorem dev8_eq (c : Dev nD) : (⟨k0_dev8 c, k0_dev8_lt c⟩ : Dev nD) = nb c 0 := by revert c; decide
/-- and so is chunk 1, -/
theorem dev9_eq (c : Dev nD) : (⟨k0_dev9 c, k0_dev9_lt c⟩ : Dev nD) = nb c 1 := by revert c; decide
/-- chunk 2 -/
theorem dev10_eq (c : Dev nD) : (⟨k0_dev10 c, k0_dev10_lt c⟩ : Dev nD) = nb c 2 := by revert c; decide
/-- and chunk 3. -/
theorem dev11_eq (c : Dev nD) : (⟨k0_dev11 c, k0_dev11_lt c⟩ : Dev nD) = nb c 3 := by revert c; decide

/-! ## The rows -/

/-- The parity of a device's place on axes y and z: which half of the other block it fetches itself. -/
def par (c : Dev nD) : ℕ := (c.val / 2 + c.val) % 2
/-- First row of chunk `j` of the half that a device sends of its own block, in that block. -/
def rowX (c : Dev nD) (j : ℕ) : ℕ := 256 * par c + 64 * j
/-- First row of chunk `j` of the half block that a device receives from across x, and forwards. -/
def rowA (c : Dev nD) (j : ℕ) : ℕ := 512 * (1 - c.val / 4) + 256 * par c + 64 * j
/-- First row of chunk `j` of the half block that a device receives from its y and z neighbours. -/
def rowB (c : Dev nD) (j : ℕ) : ℕ := 512 * (1 - c.val / 4) + 256 * (1 - par c) + 64 * j
/-- First row of a device's own block. -/
def rowO (c : Dev nD) : ℕ := 512 * (c.val / 4)

/-- The program's row offsets: where chunk `j` is sent to, on the device across x, -/
theorem off1_eq (c : Dev nD) (j : Fin 4) : k0_off1 c (BitVec.ofNat 32 (64 * j.val)) = ![rowA (xp c) j, 0] := by
  revert c j; decide +kernel
/-- where it is sent from, -/
theorem off2_eq (c : Dev nD) (j : Fin 4) : k0_off2 c (BitVec.ofNat 32 (64 * j.val)) = ![rowX c j, 0] := by
  revert c j; decide +kernel
/-- where a device stores its own block, -/
theorem off3_eq (c : Dev nD) : k0_off3 c = ![rowO c, 0] := by revert c; decide +kernel
/-- and where it forwards chunk `j` from and to. -/
theorem off4_eq (c : Dev nD) (j : Fin 4) : k0_off4 c (BitVec.ofNat 32 (64 * j.val)) = ![rowA c j, 0] := by
  revert c j; decide +kernel

/-- A device's chunk `j`, at the neighbour it is forwarded to, lies in the half that neighbour does not fetch. -/
theorem rowB_nb (c : Dev nD) (j : Fin 4) : rowB (nb c j) j = rowA c j := by revert c j; decide
/-- The neighbour a chunk is forwarded to forwards the same chunk back here. -/
theorem nb_nb (c : Dev nD) (j : Fin 4) : nb (nb c j) j = c := by revert c j; decide
/-- The neighbour a chunk is forwarded to fetches that chunk of the half that is not fetched here. -/
theorem rowA_nb (c : Dev nD) (j : Fin 4) : rowA (nb c j) j = rowB c j := by revert c j; decide
/-- A device and a neighbour on y or z fetch different halves. -/
theorem par_nb (c : Dev nD) (j : Fin 4) : par (nb c j) = 1 - par c := by revert c j; decide
/-- A chunk is sent to the row at which the whole array has it: its row in the sender's block, from that block's first row on. -/
theorem rowA_xp (c : Dev nD) (j : ℕ) : rowA (xp c) j = rowO c + rowX c j := by
  have h : 512 * (1 - (xp c).val / 4) + 256 * par (xp c) = 512 * (c.val / 4) + 256 * par c := by revert c; decide
  unfold rowO rowX; rw [rowA, h, Nat.add_assoc]

/-! ## Bands of rows -/

/-- The indices of an array of `n` rows of 512 that lie in the `k` rows from row `r` on. -/
def band (n r k : ℕ) : Finset ((⟨2, ![n, 512]⟩ : Shape).Idx) := Finset.univ.filter fun i => r ≤ (i 0 : ℕ) ∧ (i 0 : ℕ) < r + k

/-- An index is in a band when its row is. -/
theorem mem_band {n r k : ℕ} {i : (⟨2, ![n, 512]⟩ : Shape).Idx} : i ∈ band n r k ↔ r ≤ (i 0 : ℕ) ∧ (i 0 : ℕ) < r + k := by
  simp [band]

/-- The elements of a rectangle of `k` whole rows are a band. -/
theorem rect_band {n r k : ℕ} (h : ∀ a, (![r, 0] : Fin 2 → ℕ) a + (![k, 512] : Fin 2 → ℕ) a ≤ (![n, 512] : Fin 2 → ℕ) a) :
    (Rect.unit (s := ⟨2, ![n, 512]⟩) ![r, 0] ![k, 512] h).set = band n r k := by
  ext i
  rw [Rect.mem_set_unit, mem_band, Fin.forall_fin_two]
  have h1 : (i 1 : ℕ) < 512 := (i 1).isLt
  constructor
  · intro H; exact H.1
  · intro H; exact ⟨H, Nat.zero_le _, by show (i 1 : ℕ) < 0 + 512; omega⟩

/-- Bands of different rows have no element in common. -/
theorem band_disjoint {n r k r' k' : ℕ} (h : r + k ≤ r' ∨ r' + k' ≤ r) : Disjoint (band n r k) (band n r' k') := by
  rw [Finset.disjoint_left]; intro i hi hi'
  rw [mem_band] at hi hi'; omega

/-- The nine bands that a device's result is made of: its own block, the four chunks it fetches from across x, the four
    that its neighbours forward to it; the first row -/
def oLo (c : Dev nD) (t : Fin 9) : ℕ := if t.val = 0 then rowO c else if t.val ≤ 4 then rowA c (t.val - 1) else rowB c (t.val - 5)
/-- and the number of rows. -/
def oSz (t : Fin 9) : ℕ := if t.val = 0 then 512 else 64
/-- The five bands of a device's own block: the four chunks it sends, and the half it does not; the first row -/
def xLo (c : Dev nD) (t : Fin 5) : ℕ := if t.val = 0 then 256 * (1 - par c) else rowX c (t.val - 1)
/-- and the number of rows. -/
def xSz (t : Fin 5) : ℕ := if t.val = 0 then 256 else 64

/-- The bands of the result, -/
abbrev oBands (c : Dev nD) (t : Fin 9) : Finset (S1024x512.Idx) := band 1024 (oLo c t) (oSz t)
/-- and of the block. -/
abbrev xBands (c : Dev nD) (t : Fin 5) : Finset (S512x512.Idx) := band 512 (xLo c t) (xSz t)

/-- The nine bands of the result have no element in common, -/
theorem oBands_disjoint (c : Dev nD) (t t' : Fin 9) (h : t ≠ t') : Disjoint (oBands c t) (oBands c t') :=
  band_disjoint ((by decide +kernel : ∀ (c : Dev nD) (t t' : Fin 9), t ≠ t' → oLo c t + oSz t ≤ oLo c t' ∨ oLo c t' + oSz t' ≤ oLo c t) c t t' h)
/-- nor have the five of the block. -/
theorem xBands_disjoint (c : Dev nD) (t t' : Fin 5) (h : t ≠ t') : Disjoint (xBands c t) (xBands c t') :=
  band_disjoint ((by decide +kernel : ∀ (c : Dev nD) (t t' : Fin 5), t ≠ t' → xLo c t + xSz t ≤ xLo c t' ∨ xLo c t' + xSz t' ≤ xLo c t) c t t' h)

/-- The nine bands make up the result, -/
theorem oBands_cover (c : Dev nD) : Finset.univ.biUnion (oBands c) = Finset.univ := by
  ext i
  simp only [Finset.mem_biUnion, Finset.mem_univ, true_and, iff_true]
  have hi : (i 0 : ℕ) < 1024 := (i 0).isLt
  obtain ⟨t, h1, h2⟩ := (by decide +kernel : ∀ (c : Dev nD) (q : Fin 16), ∃ t : Fin 9, oLo c t ≤ 64 * q.val ∧ 64 * q.val + 64 ≤ oLo c t + oSz t) c
    ⟨(i 0 : ℕ) / 64, by omega⟩
  refine ⟨t, mem_band.mpr ?_⟩
  dsimp only at h1 h2; omega
/-- and the five the block. -/
theorem xBands_cover (c : Dev nD) : Finset.univ.biUnion (xBands c) = Finset.univ := by
  ext i
  simp only [Finset.mem_biUnion, Finset.mem_univ, true_and, iff_true]
  have hi : (i 0 : ℕ) < 512 := (i 0).isLt
  obtain ⟨t, h1, h2⟩ := (by decide +kernel : ∀ (c : Dev nD) (q : Fin 8), ∃ t : Fin 5, xLo c t ≤ 64 * q.val ∧ 64 * q.val + 64 ≤ xLo c t + xSz t) c
    ⟨(i 0 : ℕ) / 64, by omega⟩
  refine ⟨t, mem_band.mpr ?_⟩
  dsimp only at h1 h2; omega

/-! ## Contents -/

section Contents
variable {F : FTy → Type} [FloatOps F]

/-- The device whose block row `r` of device `c`'s result comes from: `c` for its own block, the device across x for the
    half `c` fetches, the device across x from the forwarding neighbour for the rest. -/
def srcOf (c : Dev nD) (r : ℕ) : Dev nD :=
  if r / 512 = c.val / 4 then c else if r % 512 / 256 = par c then xp c else xp (nb c (r / 64))

/-- The rows of the block that a result row repeats. -/
def fold (i : S1024x512.Idx) : S512x512.Idx := fun a => match a with
  | ⟨0, _⟩ => (⟨(i 0 : ℕ) % 512, Nat.mod_lt _ (by decide)⟩ : Fin 512)
  | ⟨1, _⟩ => (i 1 : Fin 512)

/-- What device `c`'s result holds when device `d`'s block holds `X d`. -/
def gathered (X : Dev nD → S512x512.Idx → Elt F .f32) (c : Dev nD) : S1024x512.Idx → Elt F .f32 :=
  fun i => X (srcOf c (i 0 : ℕ)) (fold i)

/-- A device's own rows come from its own block, -/
theorem srcOf_own (c : Dev nD) (r : ℕ) (h : rowO c ≤ r) (h' : r < rowO c + 512) : srcOf c r = c := by
  unfold rowO at h h'; unfold srcOf; rw [if_pos (by omega)]
/-- the rows of the chunks it fetches from the block across x, -/
theorem srcOf_fetched (c : Dev nD) (j : Fin 4) (r : ℕ) (h : rowA c j ≤ r) (h' : r < rowA c j + 64) : srcOf c r = xp c := by
  have hc : c.val < 8 := c.isLt
  have hj : j.val < 4 := j.isLt
  have hp : par c < 2 := Nat.mod_lt _ (by decide)
  unfold rowA at h h'; unfold srcOf
  rw [if_neg (by omega), if_pos (by omega)]
/-- and a chunk comes from the same block at the neighbour it is forwarded to. -/
theorem srcOf_forwarded (c : Dev nD) (j : Fin 4) (r : ℕ) (h : rowA c j ≤ r) (h' : r < rowA c j + 64) :
    srcOf (nb c j) r = srcOf c r := by
  have h4 := nb_side c j
  have hq := par_nb c j
  rw [srcOf_fetched c j r h h']
  have hc : c.val < 8 := c.isLt
  have hj : j.val < 4 := j.isLt
  have hp : par c < 2 := Nat.mod_lt _ (by decide)
  unfold rowA at h h'; unfold srcOf
  rw [h4, hq, if_neg (by omega), if_neg (by omega)]
  have hjj : nb (nb c j) (r / 64) = nb (nb c j) j := by
    unfold nb; congr 1; rw [eq_iff_iff]; constructor <;> intro _ <;> omega
  rw [hjj, nb_nb]

end Contents

end Cert.Gather

end
-- ==== Proof.Chunks.lean ====
/- The chunks the all-gather transfers, as views of its two staging buffers, and what a transfer of one leaves behind. -/
module

public import proofs.«01_k».proof.Proof.Rows

@[expose] public section

noncomputable section

namespace Cert.Gather

open Cert.KernelIdeal Cert.KernelIdeal.Gen
open Idealize.ShloMosaic Idealize.ShloMosaic.TcCoe

variable {F : FTy → Type} [FloatOps F]

/-- The buffer that holds a device's own block, -/
abbrev xM : Memref sig .tc .vmem S512x512 .f32 := Memref.whole cc0_stg0_0
/-- and the one its result is gathered in. -/
abbrev oM : Memref sig .tc .vmem S1024x512 .f32 := Memref.whole cc0_stg1_0

/-- 64 rows of the block, -/
abbrev xS (off : Fin 2 → ℕ) (h : ∀ a, off a + S64x512.size a ≤ S512x512.size a) : Memref sig .tc .vmem S64x512 .f32 :=
  xM.slice (Rect.unit (s := S512x512) off S64x512.size h) (fun _ => rfl)
/-- and of the result. -/
abbrev oS (off : Fin 2 → ℕ) (h : ∀ a, off a + S64x512.size a ≤ S1024x512.size a) : Memref sig .tc .vmem S64x512 .f32 :=
  oM.slice (Rect.unit (s := S1024x512) off S64x512.size h) (fun _ => rfl)

/-- The elements of 64 rows of the block from row `r` on are a band, -/
theorem xS_set {r : ℕ} {off : Fin 2 → ℕ} (h) (e : off = ![r, 0]) : (xS off h).view.set = band 512 r 64 := by
  subst e
  exact (View.set_slice_whole cc0_stg0_0 _).trans (rect_band h)
/-- and so are those of 64 rows of the result. -/
theorem oS_set {r : ℕ} {off : Fin 2 → ℕ} (h) (e : off = ![r, 0]) : (oS off h).view.set = band 1024 r 64 := by
  subst e
  exact (View.set_slice_whole cc0_stg1_0 _).trans (rect_band h)

/-- The credit of a chunk's transfer: every chunk has the same. -/
def N : ℕ := (oS ![0, 0] (by decide)).view.dmaCredit
/-- A transfer of 64 rows of the block brings that credit, -/
theorem xS_credit (off : Fin 2 → ℕ) (h) : (xS off h).view.dmaCredit = N := rfl
/-- and one of 64 rows of the result too. -/
theorem oS_credit (off : Fin 2 → ℕ) (h) : (oS off h).view.dmaCredit = N := rfl

/-- A chunk of `d`'s block written to the rows that `c` fetches from it: `c`'s part of the gathered array. -/
theorem fetch_value (X : Dev nD → S512x512.Idx → Elt F .f32) (c : Dev nD) (j : Fin 4) {os od : Fin 2 → ℕ} (hs hd)
    (es : os = ![rowX c j, 0]) (ed : od = ![rowA (xp c) j, 0]) (f : S1024x512.Idx → Elt F .f32) (i : S1024x512.Idx)
    (hi : i ∈ (oS od hd).view.set) :
    (oS od hd).view.write (Elt F) f ((xS os hs).view.read (Elt F) (X c)) Finset.univ i = gathered X (xp c) i := by
  subst es ed
  obtain ⟨x, -, rfl⟩ := Finset.mem_map.mp hi
  refine ((oS ![rowA (xp c) j, 0] hd).view.write_emb_of_mem _ _ (x := x) (Finset.mem_univ _)).trans ?_
  rw [View.read_apply]
  have hx0 : (x 0 : ℕ) < 64 := (x 0).isLt
  have e0 : (((Rect.unit (s := S1024x512) ![rowA (xp c) j, 0] S64x512.size hd).emb x) 0 : ℕ) = rowA (xp c) j + (x 0 : ℕ) :=
    ValueKit.rect_emb_unit_val _ _ _ _ _
  have e1 : (((Rect.unit (s := S1024x512) ![rowA (xp c) j, 0] S64x512.size hd).emb x) 1 : ℕ) = 0 + (x 1 : ℕ) :=
    ValueKit.rect_emb_unit_val _ _ _ _ _
  have f0 : (((Rect.unit (s := S512x512) ![rowX c j, 0] S64x512.size hs).emb x) 0 : ℕ) = rowX c j + (x 0 : ℕ) :=
    ValueKit.rect_emb_unit_val _ _ _ _ _
  have f1 : (((Rect.unit (s := S512x512) ![rowX c j, 0] S64x512.size hs).emb x) 1 : ℕ) = 0 + (x 1 : ℕ) :=
    ValueKit.rect_emb_unit_val _ _ _ _ _
  show X c ((Rect.unit (s := S512x512) ![rowX c j, 0] S64x512.size hs).emb x)
    = X (srcOf (xp c) (((Rect.unit (s := S1024x512) ![rowA (xp c) j, 0] S64x512.size hd).emb x) 0 : ℕ))
        (fold ((Rect.unit (s := S1024x512) ![rowA (xp c) j, 0] S64x512.size hd).emb x))
  rw [srcOf_fetched (xp c) j _ (by rw [e0]; omega) (by rw [e0]; omega), xp_xp]
  congr 1
  have hj : j.val < 4 := j.isLt
  have hp : par c < 2 := Nat.mod_lt _ (by decide)
  funext a
  match a with
  | ⟨0, _⟩ =>
    refine Fin.ext (f0.trans ?_)
    show _ = (((Rect.unit (s := S1024x512) ![rowA (xp c) j, 0] S64x512.size hd).emb x) 0 : ℕ) % 512
    rw [e0, rowA_xp, rowO, rowX]; omega
  | ⟨1, _⟩ => exact Fin.ext (f1.trans e1.symm)

/-- A fetched chunk of `c`'s result written to the same rows of the neighbour it is forwarded to: its part of the
    gathered array. -/
theorem forward_value (X : Dev nD → S512x512.Idx → Elt F .f32) (c : Dev nD) (j : Fin 4) {os od : Fin 2 → ℕ} (hs hd)
    (es : os = ![rowA c j, 0]) (ed : od = ![rowA c j, 0]) (f : S1024x512.Idx → Elt F .f32) (i : S1024x512.Idx)
    (hi : i ∈ (oS od hd).view.set) :
    (oS od hd).view.write (Elt F) f ((oS os hs).view.read (Elt F) (gathered X c)) Finset.univ i = gathered X (nb c j) i := by
  subst es ed
  obtain ⟨x, -, rfl⟩ := Finset.mem_map.mp hi
  refine ((oS ![rowA c j, 0] hd).view.write_emb_of_mem _ _ (x := x) (Finset.mem_univ _)).trans ?_
  rw [View.read_apply]
  have hx0 : (x 0 : ℕ) < 64 := (x 0).isLt
  have e0 : (((Rect.unit (s := S1024x512) ![rowA c j, 0] S64x512.size hd).emb x) 0 : ℕ) = rowA c j + (x 0 : ℕ) :=
    ValueKit.rect_emb_unit_val _ _ _ _ _
  show gathered X c ((Rect.unit (s := S1024x512) ![rowA c j, 0] S64x512.size hd).emb x)
    = gathered X (nb c j) ((Rect.unit (s := S1024x512) ![rowA c j, 0] S64x512.size hd).emb x)
  unfold gathered
  rw [srcOf_forwarded c j _ (by rw [e0]; omega) (by rw [e0]; omega)]

/-- The rectangle a device stores its own block in. -/
abbrev ownRect (off : Fin 2 → ℕ) (h : ∀ a, off a + S512x512.size a ≤ S1024x512.size a) : Rect S1024x512 :=
  Rect.unit (s := S1024x512) off S512x512.size h

/-- The elements of that rectangle, placed at row `r`, are a band of 512 rows. -/
theorem own_set {r : ℕ} {off : Fin 2 → ℕ} (h) (e : off = ![r, 0]) : ((oM.access (ownRect off h)).setOn Finset.univ) = band 1024 r 512 := by
  subst e
  exact (View.set_slice_whole cc0_stg1_0 _).trans (rect_band h)

/-- A device's own block stored to its own rows: its own part of the gathered array. -/
theorem own_value (X : Dev nD → S512x512.Idx → Elt F .f32) (c : Dev nD) {off : Fin 2 → ℕ} (h) (e : off = ![rowO c, 0])
    (f : S1024x512.Idx → Elt F .f32) (i : S1024x512.Idx) (hi : i ∈ band 1024 (rowO c) 512) :
    (oM.access (ownRect off h)).write (Elt F) f (k0_pay1 (X c)) Finset.univ i = gathered X c i := by
  subst e
  rw [← own_set h rfl] at hi
  obtain ⟨x, -, rfl⟩ := Finset.mem_map.mp hi
  refine ((oM.access (ownRect ![rowO c, 0] h)).write_emb_of_mem _ _ (x := x) (Finset.mem_univ _)).trans ?_
  have hx0 : (x 0 : ℕ) < 512 := (x 0).isLt
  have e0 : (((ownRect ![rowO c, 0] h).emb x) 0 : ℕ) = rowO c + (x 0 : ℕ) := ValueKit.rect_emb_unit_val _ _ _ _ _
  have e1 : (((ownRect ![rowO c, 0] h).emb x) 1 : ℕ) = 0 + (x 1 : ℕ) := ValueKit.rect_emb_unit_val _ _ _ _ _
  show k0_pay1 (X c) x = X (srcOf c (((ownRect ![rowO c, 0] h).emb x) 0 : ℕ)) (fold ((ownRect ![rowO c, 0] h).emb x))
  rw [srcOf_own c _ (by rw [e0]; omega) (by rw [e0]; omega)]
  have hp : k0_pay1 (F := F) (X c) = X c := by unfold k0_pay1; exact shapeCast_self _ _
  rw [hp]
  congr 1
  funext a
  match a with
  | ⟨0, _⟩ =>
    refine Fin.ext ?_
    show (x 0 : ℕ) = (((ownRect ![rowO c, 0] h).emb x) 0 : ℕ) % 512
    have hr : rowO c = 512 * (c.val / 4) := rfl
    rw [e0]; omega
  | ⟨1, _⟩ =>
    refine Fin.ext ?_
    show (x 1 : ℕ) = (((ownRect ![rowO c, 0] h).emb x) 1 : ℕ)
    rw [e1]; omega

end Cert.Gather

end
-- ==== Proof.Sched.lean ====
/- The all-gather's protocol: its semaphores, what each signal and each transfer hands over, what a device owes. -/
module

public import proofs.«01_k».proof.Proof.Chunks
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The kernels' rounds, with up to three duties each, -/
abbrev UB : Type := URounds (GSem nD τ sig) (Fin 3)
/-- beside the staging's; -/
abbrev UU : Type := UR sig nD τ × UB

local notation "𝕄" => MT nD τ sig Unit (Elt F) ℕ UU ℕ

/-- where the staging's are found -/
abbrev EP : Emb (UR sig nD τ) (MT nD τ sig Unit (Elt F) ℕ UU ℕ) := embL
/-- and where the kernels' own. -/
abbrev ER : Emb UB (MT nD τ sig Unit (Elt F) ℕ UU ℕ) := embR

variable (m : (ℓ : Loc nD τ sig) → Buf (Elt F) ℓ)

/-- What a device's block holds, -/
def blockAt (c : Dev nD) : S512x512.Idx → Elt F .f32 := m ((c : Thread nD τ).loc main_arg0)
/-- and its result. -/
def outAt (c : Dev nD) : S1024x512.Idx → Elt F .f32 := gathered (blockAt m) c

/-! ## The semaphores -/

/-- The barrier semaphore. -/
abbrev barS : Sem sig := (SemArray.scalar (sig.barrier 0 rfl) : Sems sig S_).sem
/-- The transfers' semaphores: `a` is 0 for the sending and 1 for the receiving side of the transfers across x, 2 and 3
    for those of the forwarding; `j` is the chunk. -/
abbrev dsem (a j : Fin 4) : DmaSem sig := ⟨2 + 4 * a.val + j.val, by have := a.isLt; have := j.isLt; change _ < 18; omega⟩

/-- The barrier of device `c`, -/
abbrev barCell (c : Dev nD) : GSem nD τ sig := ((c : Thread nD τ), .reg barS)
/-- and its transfer semaphore `a` of chunk `j`. -/
abbrev dcell (c : Dev nD) (a j : Fin 4) : GSem nD τ sig := ((c : Thread nD τ), .dma (dsem a j))

/-- The seventeen semaphores of a device in one row: the barrier first. -/
abbrev csem (k : Fin 17) : SemLoc sig := if h : k.val = 0 then .reg barS else .dma ⟨k.val + 1, by have := k.isLt; change _ < 18; omega⟩
/-- The semaphore at place `k` in device `c`'s row. -/
abbrev kcell (ck : Dev nD × Fin 17) : GSem nD τ sig := ((ck.1 : Thread nD τ), csem ck.2)
/-- Where a transfer's semaphore stands in that row. -/
abbrev dk (a j : Fin 4) : Fin 17 := ⟨1 + 4 * a.val + j.val, by have := a.isLt; have := j.isLt; omega⟩

/-- The barrier stands first, -/
theorem kcell_bar (c : Dev nD) : kcell (c, 0) = barCell c := rfl
/-- and a transfer's semaphore at its place. -/
theorem kcell_dk (c : Dev nD) (a j : Fin 4) : kcell (c, dk a j) = dcell c a j := by
  refine Prod.ext rfl ?_
  have h : ¬ (dk a j).val = 0 := by show ¬ (1 + 4 * a.val + j.val = 0); omega
  show csem (dk a j) = _
  unfold csem; rw [dif_neg h]
  congr 1; apply Fin.ext; show 1 + 4 * a.val + j.val + 1 = 2 + 4 * a.val + j.val; omega

/-! ## The rows handed over -/

/-- Rows `r … r + k` of device `c`'s result, holding `f`, -/
def oBand (c : Dev nD) (r k : ℕ) (f : (cc0_stg1_0 : Ref sig .tc).ty.Contents (Elt F)) : sProp 𝕄 :=
  ((c : Thread nD τ).loc cc0_stg1_0) ↦[band 1024 r k]{fullShare} f
/-- and of its block, lent at share `q`. -/
def xBand (c : Dev nD) (r k : ℕ) (q : PosShare TreeShare) (f : (cc0_stg0_0 : Ref sig .tc).ty.Contents (Elt F)) : sProp 𝕄 :=
  ((c : Thread nD τ).loc cc0_stg0_0) ↦[band 512 r k]{q} f
/-- Rows of device `c`'s result, whatever they hold. -/
def oAny (c : Dev nD) (r : ℕ) : sProp 𝕄 := iprop(∃ f, oBand c r 64 f)

instance oBand_storable (c : Dev nD) (r k f) : BI.Storable (upEmb : UEmb _ 𝕄) (oBand (F := F) c r k f) := by unfold oBand; infer_instance
instance xBand_storable (c : Dev nD) (r k q f) : BI.Storable (upEmb : UEmb _ 𝕄) (xBand (F := F) c r k q f) := by unfold xBand; infer_instance
instance oAny_storable (c : Dev nD) (r) : BI.Storable (upEmb : UEmb _ 𝕄) (oAny (F := F) c r) := by unfold oAny; infer_instance

/-- Chunk `j` of device `c`'s own block, lent to its transfer, -/
def xChunk (c : Dev nD) (j : Fin 4) : sProp 𝕄 := xBand c (rowX c j) 64 fullShare.left (blockAt m c)
/-- of the half of its result it fetches, gathered, -/
def aChunk (c : Dev nD) (j : Fin 4) : sProp 𝕄 := oBand c (rowA c j) 64 (outAt m c)
/-- and of the half its neighbours forward, gathered. -/
def bChunk (c : Dev nD) (j : Fin 4) : sProp 𝕄 := oBand c (rowB c j) 64 (outAt m c)

/-- The rows that device `c`'s transfer of chunk `j` across x writes, -/
def fetchRows (c : Dev nD) (j : Fin 4) : sProp 𝕄 := oAny (xp c) (rowA (xp c) j)
/-- and the rows its forwarding of chunk `j` writes. -/
def fwdRows (c : Dev nD) (j : Fin 4) : sProp 𝕄 := oAny (nb c j) (rowA c j)

/-- What the three neighbours' signals hand device `c`: the rows of theirs that `c` will write — the device across x the
    four chunks `c` sends it, the neighbour on y the two even chunks `c` forwards, the one on z the two odd ones. -/
def barPay (c : Dev nD) (d : Fin 3) : sProp 𝕄 := match d with
  | 0 => iprop(fetchRows c 0 ∗ fetchRows c 1 ∗ fetchRows c 2 ∗ fetchRows c 3)
  | 1 => iprop(fwdRows c 0 ∗ fwdRows c 2)
  | 2 => iprop(fwdRows c 1 ∗ fwdRows c 3)

/-- What a transfer's semaphore hands device `c`: its own rows back on the sending side, the rows that arrived, holding
    what the gathered array holds there, on the receiving side. -/
def dmaPay (c : Dev nD) (a j : Fin 4) : sProp 𝕄 := match a with
  | 0 => xChunk m c j
  | 1 => aChunk m c j
  | 2 => aChunk m c j
  | 3 => bChunk m c j

instance xChunk_storable (c : Dev nD) (j) : BI.Storable (upEmb : UEmb _ 𝕄) (xChunk (F := F) m c j) := by unfold xChunk; infer_instance
instance aChunk_storable (c : Dev nD) (j) : BI.Storable (upEmb : UEmb _ 𝕄) (aChunk (F := F) m c j) := by unfold aChunk; infer_instance
instance bChunk_storable (c : Dev nD) (j) : BI.Storable (upEmb : UEmb _ 𝕄) (bChunk (F := F) m c j) := by unfold bChunk; infer_instance
instance fetchRows_storable (c : Dev nD) (j) : BI.Storable (upEmb : UEmb _ 𝕄) (fetchRows (F := F) c j) := by unfold fetchRows; infer_instance
instance fwdRows_storable (c : Dev nD) (j) : BI.Storable (upEmb : UEmb _ 𝕄) (fwdRows (F := F) c j) := by unfold fwdRows; infer_instance
instance barPay_storable (c : Dev nD) (d) : BI.Storable (upEmb : UEmb _ 𝕄) (barPay (F := F) c d) := by
  unfold barPay; split <;> infer_instance
instance dmaPay_storable (c : Dev nD) (a j) : BI.Storable (upEmb : UEmb _ 𝕄) (dmaPay (F := F) m c a j) := by
  unfold dmaPay; split <;> infer_instance

/-! ## The schedule -/

/-- One round: the barrier has a duty of one unit for each of the three neighbours, a transfer's semaphore one duty, the
    transfer's credit. -/
def rd : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => barPay g.1.1 d | .dma q => dmaPay m g.1.1 ⟨(q.val - 2) / 4 % 4, Nat.mod_lt _ (by decide)⟩ ⟨(q.val - 2) % 4, Nat.mod_lt _ (by decide)⟩
  amount_pos g _ _ _ := by
    split
    · exact Nat.one_pos
    · exact View.dmaCredit_pos (oS ![0, 0] (by decide)).view (by decide)

instance rd_payload_storable (g : GSem nD τ sig) (r : ℕ) (d : Fin 3) : BI.Storable (upEmb : UEmb _ 𝕄) ((rd (F := F) m).payload g r d) := by
  show BI.Storable upEmb (match g.2 with | .reg _ => barPay g.1.1 d | .dma q => dmaPay m g.1.1 ⟨(q.val - 2) / 4 % 4, Nat.mod_lt _ (by decide)⟩ ⟨(q.val - 2) % 4, Nat.mod_lt _ (by decide)⟩)
  split <;> infer_instance

section Sched
variable (c : Dev nD) (a j : Fin 4)

/-- The barrier has three duties, -/
theorem duties_bar : (rd (F := F) m).duties (barCell c) 0 = Finset.univ := by dsimp only [rd]; exact if_pos ⟨rfl, rfl⟩
/-- a transfer's semaphore one, -/
theorem duties_dma : (rd (F := F) m).duties (dcell c a j) 0 = {0} := by dsimp only [rd]; exact if_pos ⟨rfl, rfl⟩
/-- and none has any after the one round. -/
theorem duties_later (g : GSem nD τ sig) : ∀ r, 1 ≤ r → (rd (F := F) m).duties g r = ∅ :=
  fun r hr => by dsimp only [rd]; rw [if_neg fun h => by omega]

/-- A signal counts one, -/
theorem amount_bar (d : Fin 3) : (rd (F := F) m).amount (barCell c) 0 d = 1 := rfl
/-- a transfer its credit. -/
theorem amount_dma (d : Fin 3) : (rd (F := F) m).amount (dcell c a j) 0 d = N := rfl

/-- The barrier's round comes to three, -/
theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
/-- that of a transfer's semaphore to the credit of one transfer. -/
theorem expect_dma : (rd (F := F) m).expect (dcell c a j) 0 = N := by
  unfold Schedule.expect Schedule.amountOf; rw [duties_dma, Finset.sum_singleton, amount_dma]

/-- A signal hands over the rows its device will be written, -/
theorem payload_bar (d : Fin 3) : (rd (F := F) m).payload (barCell c) 0 d = barPay c d := rfl
/-- a transfer what its semaphore carries. -/
theorem payload_dma (d : Fin 3) : (rd (F := F) m).payload (dcell c a j) 0 d = dmaPay m c a j := by
  have ha := a.isLt; have hj := j.isLt
  show dmaPay m c ⟨(2 + 4 * a.val + j.val - 2) / 4 % 4, Nat.mod_lt _ (by decide)⟩ ⟨(2 + 4 * a.val + j.val - 2) % 4, Nat.mod_lt _ (by decide)⟩ = _
  congr 1
  · exact Fin.ext (by show (2 + 4 * a.val + j.val - 2) / 4 % 4 = a.val; omega)
  · exact Fin.ext (by show (2 + 4 * a.val + j.val - 2) % 4 = j.val; omega)

/-- All that the barrier's round hands over, -/
theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_univ_eq_bigSepL [0, 1, 2] (by decide) (by decide)]; rfl
/-- and that of a transfer's semaphore. -/
theorem rest_dma : bigSep ((rd (F := F) m).duties (dcell c a j) 0 \ ∅) (fun d => (rd (F := F) m).payload (dcell c a j) 0 d)
    = dmaPay m c a j := by
  rw [Finset.sdiff_empty, duties_dma, bigSep_singleton, payload_dma]

end Sched

/-! ## What a device owes, and in which order semaphores may be waited for -/

/-- The forwardings still to come when `n` are left: chunk `3 - n` comes next to last. -/
def OB (c : Dev nD) : ℕ → CellTallies nD τ sig Unit
  | 0 => 0
  | n + 1 => OB c n + tallyAt (dcell (nb c (3 - n)) 3 ⟨3 - n, by omega⟩) () N
/-- All the forwardings, and the transfers across x still to come when `n` are left. -/
def OA (c : Dev nD) : ℕ → CellTallies nD τ sig Unit
  | 0 => OB c 4
  | n + 1 => OA c n + tallyAt (dcell (xp c) 1 ⟨3 - n, by omega⟩) () N
/-- All that, and the signals to the neighbours on z, -/
def O₂ (c : Dev nD) : CellTallies nD τ sig Unit := OA c 4 + tallyAt (barCell (zn c)) () 1
/-- on y -/
def O₁ (c : Dev nD) : CellTallies nD τ sig Unit := O₂ c + tallyAt (barCell (yn c)) () 1
/-- and across x: what a device owes at launch. -/
def O₀ (c : Dev nD) : CellTallies nD τ sig Unit := O₁ c + tallyAt (barCell (xp c)) () 1

/-- The devices' semaphores, all of which have a level. -/
def L (g : GSem nD τ sig) : Finset Unit := if g.1.2 = .tc then {()} else ∅
/-- The barrier at 1, the receiving sides at 2 (across x) and 3 (forwarding), everything else at 0. -/
def lv (g : GSem nD τ sig) (_ : Unit) : ℕ := match g.2 with
  | .reg _ => 1
  | .dma q => if 6 ≤ q.val ∧ q.val < 10 then 2 else if 14 ≤ q.val then 3 else 0

/-- No other semaphore has one; -/
theorem L_of_ne (g : GSem nD τ sig) (h : g.1.2 ≠ .tc) : L g = ∅ := if_neg h
/-- each of a device's has. -/
theorem L_tc (c : Dev nD) (sm : SemLoc sig) : L ((c : Thread nD τ), sm) = {()} := if_pos rfl

/-- Everything owed lies above level `k`. -/
def Above (k : ℕ) (O : CellTallies nD τ sig Unit) : Prop := ∀ g u, 0 < O g u → u ∈ L g ∧ k < lv g u

/-- Nothing owed lies above any level. -/
theorem above_zero (k : ℕ) : Above k 0 := fun g u h => absurd h (Nat.lt_irrefl 0)
/-- What is owed to a semaphore above level `k` lies above it, -/
theorem above_tally (k : ℕ) (c : Dev nD) (sm : SemLoc sig) (n : ℕ) (h : k < lv ((c : Thread nD τ), sm) ()) :
    Above k (tallyAt ((c : Thread nD τ), sm) () n) := fun g u hg => by
  rw [tallyAt_apply] at hg
  by_cases hh : g = ((c : Thread nD τ), sm) ∧ u = ()
  · rw [hh.1, L_tc]; exact ⟨Finset.mem_singleton_self _, h⟩
  · rw [if_neg hh] at hg; exact absurd hg (Nat.lt_irrefl 0)
/-- and so does the sum of two that do. -/
theorem above_add {k : ℕ} {O O' : CellTallies nD τ sig Unit} (h : Above k O) (h' : Above k O') : Above k (O + O') := fun g u hg => by
  rw [Pi.add_apply, Finsupp.add_apply] at hg
  rcases Nat.eq_zero_or_pos (O g u) with hz | hp
  · rw [hz, Nat.zero_add] at hg; exact h' g u hg
  · exact h g u hp

/-- The forwardings still to come lie above the arrivals across x, -/
theorem above_OB (c : Dev nD) : ∀ n, Above 2 (OB c n)
  | 0 => above_zero 2
  | n + 1 => above_add (above_OB c n) (above_tally 2 _ _ _ (by
      show 2 < if 6 ≤ 2 + 4 * 3 + (3 - n) ∧ 2 + 4 * 3 + (3 - n) < 10 then 2 else if 14 ≤ 2 + 4 * 3 + (3 - n) then 3 else 0
      rw [if_neg (by omega), if_pos (by omega)]; decide))
/-- Above a level is above every lower one. -/
theorem Above.mono {k k' : ℕ} {O : CellTallies nD τ sig Unit} (hk : k' ≤ k) (h : Above k O) : Above k' O :=
  fun g u hg => ⟨(h g u hg).1, lt_of_le_of_lt hk (h g u hg).2⟩
/-- the transfers across x and the forwardings above the barrier, -/
theorem above_OA (c : Dev nD) : ∀ n, Above 1 (OA c n)
  | 0 => (above_OB c 4).mono (by decide)
  | n + 1 => above_add (above_OA c n) (above_tally 1 _ _ _ (by
      show 1 < if 6 ≤ 2 + 4 * 1 + (3 - n) ∧ 2 + 4 * 1 + (3 - n) < 10 then 2 else if 14 ≤ 2 + 4 * 1 + (3 - n) then 3 else 0
      rw [if_pos (by omega)]; decide))
/-- and all that is owed at launch above the lowest level. -/
theorem above_O₀ (c : Dev nD) : Above 0 (O₀ c) :=
  above_add (above_add (above_add ((above_OA c 4).mono (by decide)) (above_tally 0 _ _ _ Nat.one_pos)) (above_tally 0 _ _ _ Nat.one_pos))
    (above_tally 0 _ _ _ Nat.one_pos)

/-- A device may wait for a semaphore below all it owes. -/
theorem mayWait_of_above (c : Dev nD) (sm : SemLoc sig) (O : CellTallies nD τ sig Unit) {k : ℕ} (hk : lv ((c : Thread nD τ), sm) () ≤ k) (h : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => (h g u hg).1) (fun p hp => by rw [Finset.mem_singleton.mp hp]; exact hk) (fun g u hg => (h g u hg).2)

/-! ## The tokens -/

/-- What a device's transfer of chunk `j` across x needs: the tokens of its sending and its receiving side. -/
def start1 (c : Dev nD) (j : Fin 4) : sProp 𝕄 := iprop(dutyTok ER (dcell c 0 j) 0 0 ∗ dutyTok ER (dcell (xp c) 1 j) 0 0)
/-- What its forwarding of chunk `j` needs, likewise. -/
def start2 (c : Dev nD) (j : Fin 4) : sProp 𝕄 := iprop(dutyTok ER (dcell c 2 j) 0 0 ∗ dutyTok ER (dcell (nb c j) 3 j) 0 0)
/-- What its wait for a transfer of chunk `j` needs: its place at that semaphore and the transfer's credit. -/
def await (c : Dev nD) (a j : Fin 4) : sProp 𝕄 := iprop(atPos ER (dcell c a j) 0 ∅ 0 ∗ cred (tallyAt (dcell c a j) () N))

/-- The semaphores' invariants, under the names `K`, and that each has begun its one round. -/
def records (K : Dev nD × Fin 17 → ℕ) : sProp 𝕄 :=
  iprop((bigSep Finset.univ fun ck : Dev nD × Fin 17 => cellInv ER (rd m) (K ck) (kcell ck))
    ∗ bigSep Finset.univ fun ck : Dev nD × Fin 17 => reached ER (kcell ck) 0)

instance records_persistent (K : Dev nD × Fin 17 → ℕ) : BI.Persistent (records m K) := by unfold records; infer_instance

variable (K : Dev nD × Fin 17 → ℕ)

/-- Each semaphore has its invariant -/
theorem inv_at (ck : Dev nD × Fin 17) : records m K ⊢ cellInv ER (rd m) (K ck) (kcell ck) := by
  have h : (bigSep Finset.univ fun ck : Dev nD × Fin 17 => (cellInv ER (rd m) (K ck) (kcell ck) : sProp 𝕄)) ⊢ cellInv ER (rd m) (K ck) (kcell ck) :=
    bigSep_elim (Finset.mem_univ ck)
  unfold records; iintro ⟨HI, -⟩; iapply h; iexact HI
/-- and has begun its round: -/
theorem reached_at (ck : Dev nD × Fin 17) : records m K ⊢ reached ER (kcell ck) 0 := by
  have h : (bigSep Finset.univ fun ck : Dev nD × Fin 17 => (reached ER (kcell ck) 0 : sProp 𝕄)) ⊢ reached ER (kcell ck) 0 :=
    bigSep_elim (Finset.mem_univ ck)
  unfold records; iintro ⟨-, HR⟩; iapply h; iexact HR

/-- the barrier's invariant, -/
theorem inv_bar (c : Dev nD) : records m K ⊢ cellInv ER (rd m) (K (c, 0)) (barCell c) := inv_at m K (c, 0)
/-- that of a transfer's semaphore, -/
theorem inv_dma (c : Dev nD) (a j : Fin 4) : records m K ⊢ cellInv ER (rd m) (K (c, dk a j)) (dcell c a j) := by
  have h := inv_at m K (c, dk a j); rwa [kcell_dk] at h
/-- the barrier's round, -/
theorem reached_bar (c : Dev nD) : records m K ⊢ reached ER (barCell c) 0 := reached_at m K (c, 0)
/-- that of a transfer's semaphore. -/
theorem reached_dma (c : Dev nD) (a j : Fin 4) : records m K ⊢ reached ER (dcell c a j) 0 := by
  have h := reached_at m K (c, dk a j); rwa [kcell_dk] at h

end Cert.Gather

end
-- ==== Proof.Steps.lean ====
/- The steps of the all-gather's kernel, one rule for each: a signal, the wait at the barrier, a transfer across x, a
   forwarding, a wait for a transfer. -/
module

public import proofs.«01_k».proof.Proof.Sched

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ)

/-- The program has no loop whose bound needs a measure. -/
abbrev 𝒱₀ : Variants := Variants.none

/-- What is left to show of a program on device `c`. -/
abbrev goes (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable {α : Type} {Q : α → sProp (MT nD τ sig Unit (Elt F) ℕ UU ℕ)} {k : PUnit → Prog (TpuEff nD τ sig (Elt F) Λ₀ .tc) α} {W : Waits sig Unit}

/-- A signal to a neighbour's barrier semaphore pays one unit owed and hands over what that neighbour waits for. -/
theorem step_signal (c n n' : Dev nD) (hn : n = n') (d : Fin 3) {k' : ℕ} (hk : k' = 1) (O : CellTallies nD τ sig Unit) :
    iprop(records m K ∗ owes (c : Thread nD τ) (O + tallyAt (barCell n') () 1) W ∗ dutyTok ER (barCell n') 0 d ∗ barPay n' d)
      ⊢ iprop((owes (c : Thread nD τ) O W -∗ goes c (k ⟨⟩) Q) -∗ goes c (.op (.semSignal (n : Thread nD τ) barS k') k) Q) := by
  subst hn hk
  iintro ⟨#HR, HO, Ht, Hp⟩
  iapply (Rounds.wp_signal 𝒱₀ ER (rd m) (c : Thread nD τ) none (dst := (n : Thread nD τ)) (κ := K (n, 0)) (d := d)
    (by rw [duties_bar]; exact Finset.mem_univ _) (amount_bar m n d) () O rfl)
  isplitr; · iapply (inv_bar m K n); iexact HR
  isplitl [HO]; · iexact HO
  isplitl [Ht]; · iexact Ht
  isplitl [Hp]; · rw [payload_bar]; iexact Hp
  iapply (reached_bar m K n); iexact HR

/-- The wait for three at the barrier: all three neighbours' rows are there to be written, and the semaphore is done. -/
theorem step_barrier (c : Dev nD) {k' : ℕ} (hk : k' = 3) (O : CellTallies nD τ sig Unit) (hO : Above 1 O) :
    iprop(records m K ∗ levAts L lv ∗ owes (c : Thread nD τ) O W ∗ atPos ER (barCell c) 0 ∅ 0 ∗ cred (tallyAt (barCell c) () 3))
      ⊢ iprop(((owes (c : Thread nD τ) O (insert (SemLoc.reg barS, ()) W) ∗ semVal (barCell c) 0 ∗ barPay c 0 ∗ barPay c 1 ∗ barPay c 2) -∗ goes c (k ⟨⟩) Q)
          -∗ goes c (.op (.semWait barS k') k) Q) := by
  subst hk
  iintro ⟨#HR, #Hlev, HO, Hat, Hc⟩ Hk
  ihave #HI := (inv_bar m K c) $$ HR
  iapply (Rounds.wp_wait_rest_token 𝒱₀ ER (rd m) (c : Thread nD τ) none (κ := K (c, 0))
    (wpE_semWait_eq 𝒱₀ (c : Thread nD τ) none Set.univ) (Set.mem_univ _) () (O := O) (W := W) (R := 0) (m := 0) (T := ∅)
    (by rw [expect_bar])) $$ [Hc HO Hat]
  · isplitr; · iexact HI
    isplitl [Hc]; · iexact Hc
    isplitl [HO]; · iexact HO
    isplitr; · iapply (mayWait_of_above c (.reg barS) O (le_refl 1) hO); iexact Hlev
    iexact Hat
  iintro ⟨HO, Hat, -, Hpay⟩
  ihave Hp := (Entails.of_eq (rest_bar m c)) $$ Hpay
  imod (Rounds.cell_close ER (rd m) (Set.mem_univ (K (c, 0))) (fun h => h) (R := 0 + 1) (duties_later m (barCell c))) $$ [Hat] with Hz
  · isplitr; · iexact HI
    iexact Hat
  iapply Hk
  isplitl [HO]; · iexact HO
  isplitl [Hz] <;> iassumption

/-- A wait for a transfer of chunk `j`: it hands over the rows that transfer's semaphore carries, and the semaphore is done. -/
theorem step_wait (c : Dev nD) (a j : Fin 4) {s t : Shape} {e e' : EltTy} {sp sp' : Space} {src : Memref sig .tc sp' t e'} {dst : Memref sig .tc sp s e}
    {hsrc : src.view.WordExact} {hdst : dst.view.WordExact} (hN : dst.view.dmaCredit = N) {P : sProp (MT nD τ sig Unit (Elt F) ℕ UU ℕ)} (hP : dmaPay m c a j = P)
    (O : CellTallies nD τ sig Unit) {l : ℕ} (hl : lv (dcell c a j) () ≤ l) (hO : Above l O) :
    iprop(records m K ∗ levAts L lv ∗ owes (c : Thread nD τ) O W ∗ await c a j)
      ⊢ iprop(((owes (c : Thread nD τ) O (insert (SemLoc.dma (dsem a j), ()) W) ∗ semVal (dcell c a j) 0 ∗ P) -∗ goes c (k ⟨⟩) Q)
          -∗ goes c (.op (.waitDma2 (dsem a j) src dst hsrc hdst) k) Q) := by
  unfold await
  iintro ⟨#HR, #Hlev, HO, Hat, Hc⟩ Hk
  ihave #HI := (inv_dma m K c a j) $$ HR
  iapply (Rounds.wp_wait_rest_token 𝒱₀ ER (rd m) (c : Thread nD τ) none (κ := K (c, dk a j))
    (wpE_waitDma2_eq 𝒱₀ (c : Thread nD τ) none Set.univ) (Set.mem_univ _) () (O := O) (W := W) (R := 0) (m := 0) (T := ∅)
    (by rw [Nat.zero_add, hN, expect_dma])) $$ [Hc HO Hat]
  · isplitr; · iexact HI
    isplitl [Hc]; · rw [hN]; iexact Hc
    isplitl [HO]; · iexact HO
    isplitr; · iapply (mayWait_of_above c (.dma (dsem a j)) O hl hO); iexact Hlev
    iexact Hat
  iintro ⟨HO, Hat, -, Hpay⟩
  ihave Hp := (Entails.of_eq ((rest_dma m c a j).trans hP)) $$ Hpay
  imod (Rounds.cell_close ER (rd m) (Set.mem_univ (K (c, dk a j))) (fun h => h) (R := 0 + 1) (duties_later m (dcell c a j))) $$ [Hat] with Hz
  · isplitr; · iexact HI
    iexact Hat
  iapply Hk
  isplitl [HO]; · iexact HO
  isplitl [Hz] <;> iassumption

/-- The transfer of chunk `j` across x, into the partner's rows: it pays the credit owed there, and leaves the credit of its
    sending side. -/
theorem step_fetch (c n : Dev nD) (hn : n = xp c) (j : Fin 4) {os od : Fin 2 → ℕ} (hs hd) (es : os = ![rowX c j, 0]) (ed : od = ![rowA (xp c) j, 0])
    {hsc : (oS od hd : Memref sig (Dev.tc n : Thread nD τ).2.kind .vmem S64x512 .f32).view.ref.isScScratch = false}
    {hsrc : (xS os hs).view.WordExact} {hdst : (oS od hd).view.WordExact}
    {hsem : DmaTarget.Typed .vmem (.dma (dsem 1 j)) (.remote (Dev.tc n : Thread nD τ) (oS od hd) (.dma (dsem 0 j)) hsc)}
    (O : CellTallies nD τ sig Unit) :
    iprop(records m K ∗ start1 c j ∗ xChunk m c j ∗ fetchRows c j
        ∗ owes (c : Thread nD τ) (O + tallyAt (dcell (xp c) 1 j) () N) W)
      ⊢ iprop(((cred (tallyAt (dcell c 0 j) () N) ∗ owes (c : Thread nD τ) O W) -∗ goes c (k ⟨⟩) Q)
          -∗ goes c (.op (.enqueueDma (xS os hs) (.remote (Dev.tc n : Thread nD τ) (oS od hd) (.dma (dsem 0 j)) hsc) (.dma (dsem 1 j)) hsrc hdst hsem) k) Q) := by
  subst hn
  unfold start1 xChunk fetchRows oAny xBand oBand
  rw [← xS_set hs es, ← oS_set hd ed]
  iintro ⟨#HR, ⟨Ht0, Ht1⟩, Hx, ⟨%fd, Ho⟩, HO⟩
  iapply (Rounds.wp_send_pointsTo 𝒱₀ ER (rd m) (c : Thread nD τ) none (c' := (xp c : Thread nD τ)) (src := xS os hs) (dst := oS od hd) (q := fullShare.left) (κ₁ := K (c, dk 0 j)) (κ₂ := K (xp c, dk 1 j))
    (r₁ := 0) (r₂ := 0) (d₁ := 0) (d₂ := 0) (fs := blockAt m c) (fd := fd)
    (by rw [duties_dma]; exact Finset.mem_singleton_self _) (by rw [duties_dma]; exact Finset.mem_singleton_self _)
    () () N rfl (amount_dma m c 0 j 0) (amount_dma m (xp c) 1 j 0) O rfl (W := W)
    (by rw [payload_dma]; show _ ⊢ xChunk m c j; unfold xChunk xBand; rw [xS_set hs es])
    (by
      rw [payload_dma, pointsTo_congr (fetch_value (blockAt m) c j hs hd es ed fd), oS_set hd ed]
      show _ ⊢ aChunk m (xp c) j
      unfold aChunk oBand
      exact BI.Entails.refl _))
  isplitr; · iapply (inv_dma m K c 0 j); iexact HR
  isplitr; · iapply (inv_dma m K (xp c) 1 j); iexact HR
  isplitl [Hx]; · iexact Hx
  isplitl [Ho]; · iexact Ho
  isplitl [HO]; · iexact HO
  isplitl [Ht0]; · iexact Ht0
  isplitr; · iapply (reached_dma m K c 0 j); iexact HR
  isplitl [Ht1]; · iexact Ht1
  iapply (reached_dma m K (xp c) 1 j); iexact HR

/-- The forwarding of chunk `j` to the neighbour on y or z. -/
theorem step_forward (c n : Dev nD) (j : Fin 4) (hn : n = nb c j) {os od : Fin 2 → ℕ} (hs hd) (es : os = ![rowA c j, 0]) (ed : od = ![rowA c j, 0])
    {hsc : (oS od hd : Memref sig (Dev.tc n : Thread nD τ).2.kind .vmem S64x512 .f32).view.ref.isScScratch = false}
    {hsrc : (oS os hs).view.WordExact} {hdst : (oS od hd).view.WordExact}
    {hsem : DmaTarget.Typed .vmem (.dma (dsem 3 j)) (.remote (Dev.tc n : Thread nD τ) (oS od hd) (.dma (dsem 2 j)) hsc)}
    (O : CellTallies nD τ sig Unit) :
    iprop(records m K ∗ start2 c j ∗ aChunk m c j ∗ fwdRows c j
        ∗ owes (c : Thread nD τ) (O + tallyAt (dcell (nb c j) 3 j) () N) W)
      ⊢ iprop(((cred (tallyAt (dcell c 2 j) () N) ∗ owes (c : Thread nD τ) O W) -∗ goes c (k ⟨⟩) Q)
          -∗ goes c (.op (.enqueueDma (oS os hs) (.remote (Dev.tc n : Thread nD τ) (oS od hd) (.dma (dsem 2 j)) hsc) (.dma (dsem 3 j)) hsrc hdst hsem) k) Q) := by
  subst hn
  unfold start2 aChunk fwdRows oAny oBand
  iintro ⟨#HR, ⟨Ht0, Ht1⟩, Hx, ⟨%fd, Ho⟩, HO⟩
  iapply (Rounds.wp_send_pointsTo 𝒱₀ ER (rd m) (c : Thread nD τ) none (c' := (nb c j : Thread nD τ)) (src := oS os hs) (dst := oS od hd) (q := fullShare) (κ₁ := K (c, dk 2 j)) (κ₂ := K (nb c j, dk 3 j))
    (r₁ := 0) (r₂ := 0) (d₁ := 0) (d₂ := 0) (fs := outAt m c) (fd := fd)
    (by rw [duties_dma]; exact Finset.mem_singleton_self _) (by rw [duties_dma]; exact Finset.mem_singleton_self _)
    () () N rfl (amount_dma m c 2 j 0) (amount_dma m (nb c j) 3 j 0) O rfl (W := W)
    (by rw [payload_dma, oS_set hs es]; show _ ⊢ aChunk m c j; unfold aChunk oBand; exact BI.Entails.refl _)
    (by
      rw [payload_dma, pointsTo_congr (forward_value (blockAt m) c j hs hd es ed fd), oS_set hd ed, ← rowB_nb c j]
      show _ ⊢ bChunk m (nb c j) j
      unfold bChunk oBand
      exact BI.Entails.refl _))
  isplitr; · iapply (inv_dma m K c 2 j); iexact HR
  isplitr; · iapply (inv_dma m K (nb c j) 3 j); iexact HR
  isplitl [Hx]; · rw [oS_set hs es]; iexact Hx
  isplitl [Ho]; · rw [oS_set hd ed]; iexact Ho
  isplitl [HO]; · iexact HO
  isplitl [Ht0]; · iexact Ht0
  isplitr; · iapply (reached_dma m K c 2 j); iexact HR
  isplitl [Ht1]; · iexact Ht1
  iapply (reached_dma m K (nb c j) 3 j); iexact HR

/-- Chunk `j` arrives from across x and is forwarded: the wait for it, then the transfer to the neighbour on y or z. -/
theorem step_relay (c n : Dev nD) (j : Fin 4) (hn : n = nb c j) {s t : Shape} {e e' : EltTy} {sp sp' : Space} {src : Memref sig .tc sp' t e'}
    {dst : Memref sig .tc sp s e} {hws : src.view.WordExact} {hwd : dst.view.WordExact} (hN : dst.view.dmaCredit = N)
    {os od : Fin 2 → ℕ} (hs hd) (es : os = ![rowA c j, 0]) (ed : od = ![rowA c j, 0])
    {hsc : (oS od hd : Memref sig (Dev.tc n : Thread nD τ).2.kind .vmem S64x512 .f32).view.ref.isScScratch = false}
    {hsrc : (oS os hs).view.WordExact} {hdst : (oS od hd).view.WordExact}
    {hsem : DmaTarget.Typed .vmem (.dma (dsem 3 j)) (.remote (Dev.tc n : Thread nD τ) (oS od hd) (.dma (dsem 2 j)) hsc)}
    (O : CellTallies nD τ sig Unit) (hl : lv (dcell c 1 j) () ≤ 2) (hO : Above 2 (O + tallyAt (dcell (nb c j) 3 j) () N)) :
    iprop(records m K ∗ levAts L lv ∗ owes (c : Thread nD τ) (O + tallyAt (dcell (nb c j) 3 j) () N) W ∗ await c 1 j ∗ start2 c j ∗ fwdRows c j)
      ⊢ iprop(((owes (c : Thread nD τ) O (insert (SemLoc.dma (dsem 1 j), ()) W) ∗ semVal (dcell c 1 j) 0 ∗ cred (tallyAt (dcell c 2 j) () N)) -∗ goes c (k ⟨⟩) Q)
          -∗ goes c (.op (.waitDma2 (dsem 1 j) src dst hws hwd) fun _ =>
            .op (.enqueueDma (oS os hs) (.remote (Dev.tc n : Thread nD τ) (oS od hd) (.dma (dsem 2 j)) hsc) (.dma (dsem 3 j)) hsrc hdst hsem) k) Q) := by
  iintro ⟨#HR, #Hlev, HO, Ha, Hs, Hf⟩ Hk
  iapply (step_wait m K c 1 j hN (P := aChunk m c j) rfl (O + tallyAt (dcell (nb c j) 3 j) () N) hl hO) $$ [HO Ha]
  · iframe HR Hlev HO Ha
  iintro ⟨HO, Hz, Hq⟩
  iapply (step_forward m K c n j hn hs hd es ed O) $$ [HO Hs Hq Hf]
  · iframe HR Hs Hq Hf HO
  iintro ⟨Hc, HO⟩
  iapply Hk
  iframe HO Hz Hc

/-- The last waits for chunk `j`, for the sending sides of its two transfers: the rows they read come back. -/
theorem step_drain (c : Dev nD) (j : Fin 4) {s t s' t' : Shape} {e₁ e₂ e₃ e₄ : EltTy} {p₁ p₂ p₃ p₄ : Space}
    {src : Memref sig .tc p₁ t e₁} {dst : Memref sig .tc p₂ s e₂} {src' : Memref sig .tc p₃ t' e₃} {dst' : Memref sig .tc p₄ s' e₄}
    {hsrc : src.view.WordExact} {hdst : dst.view.WordExact} {hsrc' : src'.view.WordExact} {hdst' : dst'.view.WordExact}
    (hN : dst.view.dmaCredit = N) (hN' : dst'.view.dmaCredit = N) (h0 : lv (dcell c 0 j) () ≤ 0) (h2 : lv (dcell c 2 j) () ≤ 0) :
    iprop(records m K ∗ levAts L lv ∗ owes (c : Thread nD τ) 0 W ∗ await c 0 j ∗ await c 2 j)
      ⊢ iprop(((owes (c : Thread nD τ) 0 (insert (SemLoc.dma (dsem 2 j), ()) (insert (SemLoc.dma (dsem 0 j), ()) W))
            ∗ semVal (dcell c 0 j) 0 ∗ semVal (dcell c 2 j) 0 ∗ xChunk m c j ∗ aChunk m c j) -∗ goes c (k ⟨⟩) Q)
          -∗ goes c (.op (.waitDma2 (dsem 0 j) src dst hsrc hdst) fun _ => .op (.waitDma2 (dsem 2 j) src' dst' hsrc' hdst') k) Q) := by
  iintro ⟨#HR, #Hlev, HO, H0, H2⟩ Hk
  iapply (step_wait m K c 0 j hN (P := xChunk m c j) rfl 0 h0 (above_zero 0)) $$ [HO H0]
  · iframe HR Hlev HO H0
  iintro ⟨HO, Hz0, Hx⟩
  iapply (step_wait m K c 2 j hN' (P := aChunk m c j) rfl 0 h2 (above_zero 0)) $$ [HO H2]
  · iframe HR Hlev HO H2
  iintro ⟨HO, Hz2, Ha⟩
  iapply Hk
  iframe HO Hz0 Hz2 Hx Ha

end

end Cert.Gather

end
-- ==== Proof.Bands.lean ====
/- The staging buffers cut into the bands that the all-gather's transfers read and write, and put together again. -/
module

public import proofs.«01_k».proof.Proof.Sched

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The result buffer is its nine bands. -/
theorem out_bands (c : Dev nD) (f : (cc0_stg1_0 : Ref sig .tc).ty.Contents (Elt F)) :
    ((((c : Thread nD τ).loc cc0_stg1_0) ↦{fullShare} f : sProp 𝕄))
      = iprop(oBand c (rowO c) 512 f ∗ oBand c (rowA c (0 : Fin 4)) 64 f ∗ oBand c (rowA c (1 : Fin 4)) 64 f ∗ oBand c (rowA c (2 : Fin 4)) 64 f
          ∗ oBand c (rowA c (3 : Fin 4)) 64 f ∗ oBand c (rowB c (0 : Fin 4)) 64 f ∗ oBand c (rowB c (1 : Fin 4)) 64 f
          ∗ oBand c (rowB c (2 : Fin 4)) 64 f ∗ oBand c (rowB c (3 : Fin 4)) 64 f) := by
  have h := pointsTo_biUnion (Ix := Unit) (Name := ℕ) (U := UU) (Lvl := ℕ) (ℓ := (c : Thread nD τ).loc cc0_stg1_0) (q := fullShare) (f := f)
    (Finset.univ : Finset (Fin 9)) (oBands c) (fun t _ t' _ hne => oBands_disjoint c t t' hne)
  rw [oBands_cover] at h
  refine h.trans ?_
  rw [bigSep_univ_eq_bigSepL [0, 1, 2, 3, 4, 5, 6, 7, 8] (by decide) (by decide)]
  rfl

/-- The block buffer, at any share, is its five bands. -/
theorem x_bands (c : Dev nD) (q : PosShare TreeShare) (f : (cc0_stg0_0 : Ref sig .tc).ty.Contents (Elt F)) :
    ((((c : Thread nD τ).loc cc0_stg0_0) ↦{q} f : sProp 𝕄))
      = iprop(xBand c (256 * (1 - par c)) 256 q f ∗ xBand c (rowX c (0 : Fin 4)) 64 q f ∗ xBand c (rowX c (1 : Fin 4)) 64 q f
          ∗ xBand c (rowX c (2 : Fin 4)) 64 q f ∗ xBand c (rowX c (3 : Fin 4)) 64 q f) := by
  have h := pointsTo_biUnion (Ix := Unit) (Name := ℕ) (U := UU) (Lvl := ℕ) (ℓ := (c : Thread nD τ).loc cc0_stg0_0) (q := q) (f := f)
    (Finset.univ : Finset (Fin 5)) (xBands c) (fun t _ t' _ hne => xBands_disjoint c t t' hne)
  rw [xBands_cover] at h
  refine h.trans ?_
  rw [bigSep_univ_eq_bigSepL [0, 1, 2, 3, 4] (by decide) (by decide)]
  rfl

/-- The block buffer is a half share of it whole and the other half of its five bands. -/
theorem x_halves (c : Dev nD) :
    ((((c : Thread nD τ).loc cc0_stg0_0) ↦{fullShare} blockAt m c : sProp 𝕄))
      ⊣⊢ iprop((xBand c (256 * (1 - par c)) 256 fullShare.left (blockAt m c) ∗ xChunk m c 0 ∗ xChunk m c 1 ∗ xChunk m c 2 ∗ xChunk m c 3)
          ∗ (((c : Thread nD τ).loc cc0_stg0_0) ↦{fullShare.right} blockAt m c)) := by
  have h : ((((c : Thread nD τ).loc cc0_stg0_0) ↦{fullShare} blockAt m c : sProp 𝕄))
      ⊣⊢ iprop((((c : Thread nD τ).loc cc0_stg0_0) ↦{fullShare.left} blockAt m c) ∗ (((c : Thread nD τ).loc cc0_stg0_0) ↦{fullShare.right} blockAt m c)) :=
    pointsTo_share (PosShare.mem_left_op_right fullShare)
  rw [x_bands c fullShare.left (blockAt m c)] at h
  exact h

/-- The rows a device gives to its neighbours, as those neighbours receive them. -/
theorem give_x (c : Dev nD) : iprop(oAny c (rowA c (0 : Fin 4)) ∗ oAny c (rowA c (1 : Fin 4)) ∗ oAny c (rowA c (2 : Fin 4)) ∗ oAny c (rowA c (3 : Fin 4)))
    = (barPay (xp c) 0 : sProp 𝕄) := by
  unfold barPay fetchRows; rw [xp_xp]
/-- Even chunks are forwarded along y, -/
theorem nb_even (c : Dev nD) (j : Fin 4) (h : j.val % 2 = 0) : nb c j = yn c := if_pos h
/-- odd ones along z. -/
theorem nb_odd (c : Dev nD) (j : Fin 4) (h : ¬ j.val % 2 = 0) : nb c j = zn c := if_neg h
/-- Of the rows it does not fetch, the even chunks go to the neighbour on y, -/
theorem give_y (c : Dev nD) : iprop(oAny c (rowB c (0 : Fin 4)) ∗ oAny c (rowB c (2 : Fin 4))) = (barPay (yn c) 1 : sProp 𝕄) := by
  have e0 := rowA_nb c 0
  have e2 := rowA_nb c 2
  rw [nb_even c _ (by decide)] at e0 e2
  show _ = iprop(fwdRows (yn c) 0 ∗ fwdRows (yn c) 2)
  unfold fwdRows
  rw [nb_even _ _ (by decide), nb_even _ _ (by decide), yn_yn, e0, e2]
/-- and the odd ones to the neighbour on z. -/
theorem give_z (c : Dev nD) : iprop(oAny c (rowB c (1 : Fin 4)) ∗ oAny c (rowB c (3 : Fin 4))) = (barPay (zn c) 2 : sProp 𝕄) := by
  have e1 := rowA_nb c 1
  have e3 := rowA_nb c 3
  rw [nb_odd c _ (by decide)] at e1 e3
  show _ = iprop(fwdRows (zn c) 1 ∗ fwdRows (zn c) 3)
  unfold fwdRows
  rw [nb_odd _ _ (by decide), nb_odd _ _ (by decide), zn_zn, e1, e3]

/-- Rows at some contents are rows whatever they hold. -/
theorem any_intro (c : Dev nD) (r : ℕ) (f : (cc0_stg1_0 : Ref sig .tc).ty.Contents (Elt F)) : oBand c r 64 f ⊢ (oAny c r : sProp 𝕄) := by
  unfold oAny; iintro H; iexists f; iexact H

/-- The result buffer cut up at the start: a device's own rows, and what it gives its neighbours. -/
theorem out_give (c : Dev nD) (f : (cc0_stg1_0 : Ref sig .tc).ty.Contents (Elt F)) :
    ((((c : Thread nD τ).loc cc0_stg1_0) ↦{fullShare} f : sProp 𝕄))
      ⊢ iprop(oBand c (rowO c) 512 f ∗ barPay (xp c) 0 ∗ barPay (yn c) 1 ∗ barPay (zn c) 2) := by
  rw [out_bands, ← give_x, ← give_y, ← give_z]
  iintro ⟨HO, A0, A1, A2, A3, B0, B1, B2, B3⟩
  isplitl [HO]; · iexact HO
  isplitl [A0 A1 A2 A3]
  · isplitl [A0]; · iapply (any_intro c _ f); iexact A0
    isplitl [A1]; · iapply (any_intro c _ f); iexact A1
    isplitl [A2]; · iapply (any_intro c _ f); iexact A2
    iapply (any_intro c _ f); iexact A3
  isplitl [B0 B2]
  · isplitl [B0]; · iapply (any_intro c _ f); iexact B0
    iapply (any_intro c _ f); iexact B2
  isplitl [B1]; · iapply (any_intro c _ f); iexact B1
  iapply (any_intro c _ f); iexact B3

/-- The result buffer put together at the end: every band holds its part of the gathered array. -/
theorem out_take (c : Dev nD) :
    iprop(oBand c (rowO c) 512 (outAt m c) ∗ (aChunk m c 0 ∗ aChunk m c 1 ∗ aChunk m c 2 ∗ aChunk m c 3)
        ∗ (bChunk m c 0 ∗ bChunk m c 1 ∗ bChunk m c 2 ∗ bChunk m c 3))
      ⊢ ((((c : Thread nD τ).loc cc0_stg1_0) ↦{fullShare} outAt m c : sProp 𝕄)) := by
  rw [out_bands]; unfold aChunk bChunk
  iintro ⟨HO, ⟨A0, A1, A2, A3⟩, B0, B1, B2, B3⟩
  iframe

end Cert.Gather

end
-- ==== Proof.Data.lean ====
/- What a device's kernel starts from and ends with. -/
module

public import proofs.«01_k».proof.Proof.Steps
public import proofs.«01_k».proof.Proof.Bands

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device holds for its barrier: its place there and a token of each of its three neighbours' barriers. -/
def barStart (c : Dev nD) : sProp 𝕄 :=
  iprop(atPos ER (barCell c) 0 ∅ 0 ∗ dutyTok ER (barCell (xp c)) 0 0 ∗ dutyTok ER (barCell (yn c)) 0 1 ∗ dutyTok ER (barCell (zn c)) 0 2)
/-- What it holds for chunk `j`: the tokens of its two transfers of that chunk and its places at its four semaphores. -/
def chunkStart (c : Dev nD) (j : Fin 4) : sProp 𝕄 :=
  iprop(start1 c j ∗ start2 c j ∗ atPos ER (dcell c 0 j) 0 ∅ 0 ∗ atPos ER (dcell c 1 j) 0 ∅ 0 ∗ atPos ER (dcell c 2 j) 0 ∅ 0 ∗ atPos ER (dcell c 3 j) 0 ∅ 0)
/-- The credit of the two transfers that bring it chunk `j`. -/
def chunkCred (c : Dev nD) (j : Fin 4) : sProp 𝕄 := iprop(cred (tallyAt (dcell c 1 j) () N) ∗ cred (tallyAt (dcell c 3 j) () N))
/-- Its four semaphores of chunk `j` at zero again. -/
def chunkDone (c : Dev nD) (j : Fin 4) : sProp 𝕄 :=
  iprop(semVal (dcell c 0 j) 0 ∗ semVal (dcell c 1 j) 0 ∗ semVal (dcell c 2 j) 0 ∗ semVal (dcell c 3 j) 0)

/-- A device's places and tokens: for its barrier and for each chunk. -/
def linear (c : Dev nD) : sProp 𝕄 := iprop(barStart c ∗ chunkStart c 0 ∗ chunkStart c 1 ∗ chunkStart c 2 ∗ chunkStart c 3)
/-- The credit of all it waits for from others. -/
def credits (c : Dev nD) : sProp 𝕄 :=
  iprop(cred (tallyAt (barCell c) () 3) ∗ chunkCred c 0 ∗ chunkCred c 1 ∗ chunkCred c 2 ∗ chunkCred c 3)

/-- What the launch gives a device for its kernel. -/
def start (c : Dev nD) : sProp 𝕄 := iprop((∃ K, records m K ∗ linear c) ∗ credits c ∗ levAts L lv)
/-- What is left of that after it: every semaphore at zero. -/
def done (c : Dev nD) : sProp 𝕄 := iprop(semVal (barCell c) 0 ∗ chunkDone c 0 ∗ chunkDone c 1 ∗ chunkDone c 2 ∗ chunkDone c 3)

/-- The kernel's one step: from `start` to `done`, owing `O₀` before and nothing after, its block's buffer as it was and
    its result's holding the gathered array. -/
def dats (_ : Fin 1) (c : Dev nD) : Dat τ (Elt F) Unit ℕ UU ℕ cfg0 c where
  A w := m ((cfg0.win w).arr.view.loc (c : Thread nD τ))
  after w _ := match w with
    | ⟨0, _⟩ => blockAt m c
    | ⟨1, _⟩ => outAt m c
  Φ t := match t with
    | ⟨0, _⟩ => start m c
    | ⟨_ + 1, _⟩ => done c
  q _ := fullShare
  owed t := match t with
    | ⟨0, _⟩ => O₀ c
    | ⟨_ + 1, _⟩ => 0

/-- The kernel's two buffers on device `c`: its block's holding `X`, its result's holding `Y`. -/
def held (c : Dev nD) (X : S512x512.Idx → Elt F .f32) (Y : S1024x512.Idx → Elt F .f32) : sProp 𝕄 :=
  iprop((((c : Thread nD τ).loc cc0_stg0_0) ↦{fullShare} X) ∗ (((c : Thread nD τ).loc cc0_stg1_0) ↦{fullShare} Y))

/-- An element of the argument's one block is at its own place in the argument. -/
theorem blk_x_emb (t : Fin cfg0.N) (i : S512x512.Idx) : ((cfg0.win (0 : Fin 2)).blk t).view.emb i = i := by
  funext a; exact Fin.ext (win0_0.rect_emb_val_of_index_zero t a rfl i)

/-- The kernel finds its device's argument in its block's buffer, whatever the buffer held before. -/
theorem before_x (c : Dev nD) (d) : (dats m 0 c).before (0 : Fin 2) t0_0 d = blockAt m c := by
  unfold Dat.before
  rw [if_pos (by decide)]
  exact funext fun i => congrArg (blockAt m c) (blk_x_emb t0_0 i)

/-- The whole block loaded is what the buffer holds. -/
theorem load_block (f : (cc0_stg0_0 : Ref sig .tc).ty.Contents (Elt F)) :
    xM.view.readAt (Elt F) (Rect.unit (s := S512x512) ![0, 0] S512x512.size inb_S512x512_S512x512_0_0).toLoadRect f = f :=
  Memref.readAt_unit_zero (Elt F) cc0_stg0_0 (funext fun a => by fin_cases a <;> rfl) _ f

/-- A device's own rows, its block stored there. -/
theorem stored (c : Dev nD) (f : (cc0_stg1_0 : Ref sig .tc).ty.Contents (Elt F)) :
    ((((c : Thread nD τ).loc cc0_stg1_0) ↦[band 1024 (rowO c) 512]{fullShare}
        ((oM.access (ownRect (k0_off3 c) (k0_off3_inb c))).write (Elt F) f (k0_pay1 (blockAt m c)) Finset.univ) : sProp 𝕄))
      = oBand c (rowO c) 512 (outAt m c) :=
  pointsTo_congr (own_value (blockAt m) c (k0_off3_inb c) (off3_eq c) f)

end Cert.Gather

end
-- ==== Proof.Body.lean ====
/- The all-gather's kernel run once, at an arbitrary device. -/
module

public import proofs.«01_k».proof.Proof.Data

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The rows of a device's own block, as the store writes them. -/
theorem own_rows (c : Dev nD) : (oM.access (ownRect (k0_off3 c) (k0_off3_inb c))).setOn Finset.univ ⊆ band 1024 (rowO c) 512 := by
  rw [own_set (k0_off3_inb c) (off3_eq c)]

set_option maxHeartbeats 4000000 in
set_option maxRecDepth 20000 in
/-- The kernel on device `c`, run from what the launch gives, its argument in its block's buffer, to every semaphore at
    zero and the gathered array in the result's buffer. -/
theorem sound_body (c : Dev nD) (g : S1024x512.Idx → Elt F .f32) :
    iprop(start m c ∗ (dats m 0 c).owesAt () t0_0.castSucc ∗ held c (blockAt m c) g)
      ⊢ goes c (cc0_body (Memref.whole cc0_stg0_0) (Memref.isWhole_whole _) (Memref.whole cc0_stg1_0) (Memref.isWhole_whole _)
            cc0_scratch0 cc0_scratch1 cc0_scratch2 cc0_scratch3)
          fun _ => iprop(done c ∗ (dats m 0 c).owesAt () t0_0.succ ∗ held c (blockAt m c) (outAt m c)) := by
  simp only [cc0_body_eq_skeleton]; unfold cc0_body_skel
  simp only [k0_part10_eq_skeleton]; unfold k0_part10_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, Prog.bind_assoc, goes, wp_deviceId]
  unfold start linear credits barStart chunkStart chunkCred held Dat.owesAt Pipeline.owesWithin
  iintro ⟨⟨⟨%K, #HR, ⟨PB, TX, TY, TZ⟩, ⟨S10, S20, P00, P10, P20, P30⟩, ⟨S11, S21, P01, P11, P21, P31⟩,
      ⟨S12, S22, P02, P12, P22, P32⟩, ⟨S13, S23, P03, P13, P23, P33⟩⟩,
    ⟨CB, ⟨C10, C30⟩, ⟨C11, C31⟩, ⟨C12, C32⟩, ⟨C13, C33⟩⟩, #Hlev⟩, ⟨%W, %hW, HO⟩, Hx, Hout⟩
  rw [show (dats m 0 c).owed t0_0.castSucc = O₀ c from rfl, show (dats m 0 c).owed t0_0.succ = 0 from rfl]
  -- the rows the neighbours will write go to them, and theirs come back at the barrier
  ihave Hg := (out_give c g) $$ Hout
  icases Hg with ⟨Own, GX, GY, GZ⟩
  iapply (step_signal m K c _ (xp c) (dev1_eq c) 0 (by decide) (O₁ c)) $$ [HO TX GX]
  · iframe HR HO TX GX
  iintro HO
  iapply (step_signal m K c _ (yn c) (dev2_eq c) 1 (by decide) (O₂ c)) $$ [HO TY GY]
  · iframe HR HO TY GY
  iintro HO
  iapply (step_signal m K c _ (zn c) (dev3_eq c) 2 (by decide) (OA c 4)) $$ [HO TZ GZ]
  · iframe HR HO TZ GZ
  iintro HO
  iapply (step_barrier m K c (by decide) (OA c 4) (above_OA c 4)) $$ [HO PB CB]
  · iframe HR Hlev HO PB CB
  unfold barPay
  iintro ⟨HO, ZB, ⟨R0, R1, R2, R3⟩, ⟨V0, V2⟩, ⟨V1, V3⟩⟩
  -- the chunks of the block are sent across x, at half a share each
  ihave Hx := ((x_halves m c).1) $$ Hx
  icases Hx with ⟨⟨XR, X0, X1, X2, X3⟩, Hx⟩
  iapply (step_fetch m K c _ (dev4_eq c) 0 _ _ (off2_eq c 0) (off1_eq c 0) (OA c 3)) $$ [HO S10 X0 R0]
  · iframe HR S10 X0 R0 HO
  iintro ⟨C00, HO⟩
  iapply (step_fetch m K c _ (dev5_eq c) 1 _ _ (off2_eq c 1) (off1_eq c 1) (OA c 2)) $$ [HO S11 X1 R1]
  · iframe HR S11 X1 R1 HO
  iintro ⟨C01, HO⟩
  iapply (step_fetch m K c _ (dev6_eq c) 2 _ _ (off2_eq c 2) (off1_eq c 2) (OA c 1)) $$ [HO S12 X2 R2]
  · iframe HR S12 X2 R2 HO
  iintro ⟨C02, HO⟩
  iapply (step_fetch m K c _ (dev7_eq c) 3 _ _ (off2_eq c 3) (off1_eq c 3) (OA c 0)) $$ [HO S13 X3 R3]
  · iframe HR S13 X3 R3 HO
  iintro ⟨C03, HO⟩
  -- the block is copied to its own rows of the result
  iapply (wp_load 𝒱₀ (c : Thread nD τ) none Set.univ (m := xM) (Finset.subset_univ _)) $$ Hx; iintro Hx
  rw [load_block]
  unfold oBand
  iapply (wp_load_rect 𝒱₀ (c : Thread nD τ) none Set.univ (m := oM) (r := ownRect (k0_off3 c) (k0_off3_inb c)) (own_rows c)) $$ Own; iintro Own
  iapply (wp_store 𝒱₀ (c : Thread nD τ) none Set.univ (m := oM) (r := ownRect (k0_off3 c) (k0_off3_inb c)) (Mk := Finset.univ) (own_rows c)) $$ Own; iintro Own
  ihave Own := (Entails.of_eq (stored m c g)) $$ Own
  -- each chunk is forwarded when it has come
  iapply (step_relay m K c _ 0 (dev8_eq c) (oS_credit _ _) _ _ (off4_eq c 0) (off4_eq c 0) (OB c 3) (le_refl 2) (above_OB c 4)) $$ [HO P10 C10 S20 V0]
  · unfold await; iframe HR Hlev HO P10 C10 S20 V0
  iintro ⟨HO, Z10, C20⟩
  iapply (step_relay m K c _ 1 (dev9_eq c) (oS_credit _ _) _ _ (off4_eq c 1) (off4_eq c 1) (OB c 2) (le_refl 2) (above_OB c 3)) $$ [HO P11 C11 S21 V1]
  · unfold await; iframe HR Hlev HO P11 C11 S21 V1
  iintro ⟨HO, Z11, C21⟩
  iapply (step_relay m K c _ 2 (dev10_eq c) (oS_credit _ _) _ _ (off4_eq c 2) (off4_eq c 2) (OB c 1) (le_refl 2) (above_OB c 2)) $$ [HO P12 C12 S22 V2]
  · unfold await; iframe HR Hlev HO P12 C12 S22 V2
  iintro ⟨HO, Z12, C22⟩
  iapply (step_relay m K c _ 3 (dev11_eq c) (oS_credit _ _) _ _ (off4_eq c 3) (off4_eq c 3) (OB c 0) (le_refl 2) (above_OB c 1)) $$ [HO P13 C13 S23 V3]
  · unfold await; iframe HR Hlev HO P13 C13 S23 V3
  iintro ⟨HO, Z13, C23⟩
  -- the forwarded chunks come
  iapply (step_wait m K c 3 0 (oS_credit _ _) (P := bChunk m c 0) rfl 0 (le_refl 3) (above_zero 3)) $$ [HO P30 C30]
  · unfold await; iframe HR Hlev HO P30 C30
  iintro ⟨HO, Z30, B0⟩
  iapply (step_wait m K c 3 1 (oS_credit _ _) (P := bChunk m c 1) rfl 0 (le_refl 3) (above_zero 3)) $$ [HO P31 C31]
  · unfold await; iframe HR Hlev HO P31 C31
  iintro ⟨HO, Z31, B1⟩
  iapply (step_wait m K c 3 2 (oS_credit _ _) (P := bChunk m c 2) rfl 0 (le_refl 3) (above_zero 3)) $$ [HO P32 C32]
  · unfold await; iframe HR Hlev HO P32 C32
  iintro ⟨HO, Z32, B2⟩
  iapply (step_wait m K c 3 3 (oS_credit _ _) (P := bChunk m c 3) rfl 0 (le_refl 3) (above_zero 3)) $$ [HO P33 C33]
  · unfold await; iframe HR Hlev HO P33 C33
  iintro ⟨HO, Z33, B3⟩
  -- what was sent has gone
  iapply (step_drain m K c 0 (xS_credit _ _) (oS_credit _ _) (le_refl 0) (le_refl 0)) $$ [HO P00 C00 P20 C20]
  · unfold await; iframe HR Hlev HO P00 C00 P20 C20
  iintro ⟨HO, Z00, Z20, X0, A0⟩
  iapply (step_drain m K c 1 (xS_credit _ _) (oS_credit _ _) (le_refl 0) (le_refl 0)) $$ [HO P01 C01 P21 C21]
  · unfold await; iframe HR Hlev HO P01 C01 P21 C21
  iintro ⟨HO, Z01, Z21, X1, A1⟩
  iapply (step_drain m K c 2 (xS_credit _ _) (oS_credit _ _) (le_refl 0) (le_refl 0)) $$ [HO P02 C02 P22 C22]
  · unfold await; iframe HR Hlev HO P02 C02 P22 C22
  iintro ⟨HO, Z02, Z22, X2, A2⟩
  iapply (step_drain m K c 3 (xS_credit _ _) (oS_credit _ _) (le_refl 0) (le_refl 0)) $$ [HO P03 C03 P23 C23]
  · unfold await; iframe HR Hlev HO P03 C03 P23 C23
  iintro ⟨HO, Z03, Z23, X3, A3⟩
  unfold goes; rw [wp_ret]; imodintro
  ihave Hx := ((x_halves m c).2) $$ [XR X0 X1 X2 X3 Hx]
  · iframe XR X0 X1 X2 X3 Hx
  ihave Hout := (out_take m c) $$ [Own A0 A1 A2 A3 B0 B1 B2 B3]
  · iframe Own A0 A1 A2 A3 B0 B1 B2 B3
  unfold done chunkDone
  iframe ZB Z00 Z10 Z20 Z30 Z01 Z11 Z21 Z31 Z02 Z12 Z22 Z32 Z03 Z13 Z23 Z33 Hx Hout
  iexists _
  isplitr; swap; · iexact HO
  ipureintro; exact fun _ _ => Or.inl trivial

/-- What a device's kernel owes the launch: that run, the buffers being the launch's. -/
theorem body_obligation (c : Dev nD) : BodyObligation (dats (F := F) m 0 c) (defs₀ (F := F)) 𝒱₀ () Set.univ := fun t => by
  have h (Φ : Fin cfg0.W → sProp (MT nD τ sig Unit (Elt F) ℕ UU ℕ)) : bigSep Finset.univ Φ = iprop(Φ (0 : Fin 2) ∗ Φ (1 : Fin 2)) := bigSep_W0 Φ
  rw [fin_N0 t, h, h]
  show iprop(start m c ∗ (dats m 0 c).owesAt () t0_0.castSucc
      ∗ (∃ d, owns (c : Thread nD τ) (Memref.whole cc0_stg0_0) fullShare ((dats m 0 c).before (0 : Fin 2) t0_0 d))
      ∗ (∃ d, owns (c : Thread nD τ) (Memref.whole cc0_stg1_0) fullShare ((dats m 0 c).before (1 : Fin 2) t0_0 d)))
    ⊢ goes c (cc0_body (Memref.whole cc0_stg0_0) (Memref.isWhole_whole _) (Memref.whole cc0_stg1_0) (Memref.isWhole_whole _)
        cc0_scratch0 cc0_scratch1 cc0_scratch2 cc0_scratch3)
      fun _ => iprop(done c ∗ (dats m 0 c).owesAt () t0_0.succ
        ∗ owns (c : Thread nD τ) (Memref.whole cc0_stg0_0) fullShare (blockAt m c)
        ∗ owns (c : Thread nD τ) (Memref.whole cc0_stg1_0) fullShare (outAt m c))
  simp only [owns_whole, before_x]
  iintro ⟨Hs, Ho, ⟨%_, Hx⟩, %d, Hout⟩
  iapply (sound_body m c ((dats m 0 c).before (1 : Fin 2) t0_0 d))
  unfold held
  iframe Hs Ho Hx Hout

end Cert.Gather

end
-- ==== Proof.Deal.lean ====
/- How the launch deals each device its places and its tokens. -/
module

public import proofs.«01_k».proof.Proof.Data

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The sixteen transfer semaphores a device's kernel has of its own. -/
abbrev osem (k : Fin 16) : SemLoc sig := .dma ⟨k.val + 2, by have := k.isLt; change _ < 18; omega⟩

/-- The seventeen semaphores of a device differ, -/
theorem csem_injective : ∀ k k' : Fin 17, csem k = csem k' → k = k' := by decide
/-- and so do those of all the devices. -/
theorem kcell_injective : Function.Injective (kcell : Dev nD × Fin 17 → GSem nD τ sig) := by
  rintro ⟨c, k⟩ ⟨c', k'⟩ h
  have h1 : c = c' := congrArg (fun g : GSem nD τ sig => g.1.1) h
  exact Prod.ext h1 (csem_injective k k' (congrArg Prod.snd h))
/-- The semaphores of all the devices. -/
def gatherCells : Finset (GSem nD τ sig) := Finset.univ.map ⟨kcell, kcell_injective⟩

/-- A device's nineteen duties: three at its barrier, one at each of its sixteen transfer semaphores — which semaphore, -/
abbrev tokSem (k : Fin 19) : Fin 17 := if k.val < 3 then 0 else ⟨k.val - 2, by have := k.isLt; omega⟩
/-- and which duty there. -/
abbrev tokDuty (k : Fin 19) : Fin 3 := if h : k.val < 3 then ⟨k.val, h⟩ else 0
/-- The nineteen duties of a device differ, -/
theorem tok_injective : ∀ k k' : Fin 19, tokSem k = tokSem k' → tokDuty k = tokDuty k' → k = k' := by decide
/-- Duty `k` of a device, as the launch names it: -/
abbrev tokOf (ck : Dev nD × Fin 19) : GSem nD τ sig × ℕ × Fin 3 := (kcell (ck.1, tokSem ck.2), 0, tokDuty ck.2)
/-- the duties of all the devices differ. -/
theorem tokOf_injective : Function.Injective (tokOf : Dev nD × Fin 19 → GSem nD τ sig × ℕ × Fin 3) := by
  rintro ⟨c, k⟩ ⟨c', k'⟩ h
  have h1 := kcell_injective (congrArg Prod.fst h)
  have e1 : c = c' := congrArg (fun p : Dev nD × Fin 17 => p.1) h1
  exact Prod.ext e1 (tok_injective k k' (congrArg (fun p : Dev nD × Fin 17 => p.2) h1) (congrArg (fun x : GSem nD τ sig × ℕ × Fin 3 => x.2.2) h))
/-- The duties of all the devices. -/
def gatherToks : Finset (GSem nD τ sig × ℕ × Fin 3) := Finset.univ.map ⟨tokOf, tokOf_injective⟩

/-- What the launch allots: the staging's rounds and the kernels' own. -/
def u₀ : UU :=
  (initOf (Pipeline.cells cfgs cellOf_inj) (Pipeline.launchToks cfgs cellOf_inj), initOf gatherCells gatherToks)

/-- Something for each of a device's seventeen semaphores, one by one: the barrier's, then the transfers'. -/
theorem each_sem (c : Dev nD) (Φ : GSem nD τ sig → sProp (MT nD τ sig Unit (Elt F) ℕ UU ℕ)) : (bigSep Finset.univ fun k : Fin 17 => Φ (kcell (c, k)))
    = iprop(Φ (barCell c) ∗ Φ (dcell c 0 0) ∗ Φ (dcell c 0 1) ∗ Φ (dcell c 0 2) ∗ Φ (dcell c 0 3)
        ∗ Φ (dcell c 1 0) ∗ Φ (dcell c 1 1) ∗ Φ (dcell c 1 2) ∗ Φ (dcell c 1 3)
        ∗ Φ (dcell c 2 0) ∗ Φ (dcell c 2 1) ∗ Φ (dcell c 2 2) ∗ Φ (dcell c 2 3)
        ∗ Φ (dcell c 3 0) ∗ Φ (dcell c 3 1) ∗ Φ (dcell c 3 2) ∗ Φ (dcell c 3 3)) := by
  rw [bigSep_univ_eq_bigSepL [0, 1, 2, 3, 4, 5, 6, 7, 8, 9, 10, 11, 12, 13, 14, 15, 16] (by decide) (by decide)]; rfl
/-- Something for each of its nineteen duties, likewise. -/
theorem each_duty (c : Dev nD) (Φ : GSem nD τ sig → Fin 3 → sProp (MT nD τ sig Unit (Elt F) ℕ UU ℕ)) :
    (bigSep Finset.univ fun k : Fin 19 => Φ (kcell (c, tokSem k)) (tokDuty k))
    = iprop(Φ (barCell c) 0 ∗ Φ (barCell c) 1 ∗ Φ (barCell c) 2
        ∗ Φ (dcell c 0 0) 0 ∗ Φ (dcell c 0 1) 0 ∗ Φ (dcell c 0 2) 0 ∗ Φ (dcell c 0 3) 0
        ∗ Φ (dcell c 1 0) 0 ∗ Φ (dcell c 1 1) 0 ∗ Φ (dcell c 1 2) 0 ∗ Φ (dcell c 1 3) 0
        ∗ Φ (dcell c 2 0) 0 ∗ Φ (dcell c 2 1) 0 ∗ Φ (dcell c 2 2) 0 ∗ Φ (dcell c 2 3) 0
        ∗ Φ (dcell c 3 0) 0 ∗ Φ (dcell c 3 1) 0 ∗ Φ (dcell c 3 2) 0 ∗ Φ (dcell c 3 3) 0) := by
  rw [bigSep_univ_eq_bigSepL [0, 1, 2, 3, 4, 5, 6, 7, 8, 9, 10, 11, 12, 13, 14, 15, 16, 17, 18] (by decide) (by decide)]; rfl

/-! ## The tokens of a device's own semaphores, and those it uses -/

/-- The tokens of a device's own barrier, -/
def barToks (c : Dev nD) : sProp 𝕄 := iprop(dutyTok ER (barCell c) 0 0 ∗ dutyTok ER (barCell c) 0 1 ∗ dutyTok ER (barCell c) 0 2)
/-- of its own semaphores of chunk `j`, -/
def chunkToks (c : Dev nD) (j : Fin 4) : sProp 𝕄 :=
  iprop(dutyTok ER (dcell c 0 j) 0 0 ∗ dutyTok ER (dcell c 1 j) 0 0 ∗ dutyTok ER (dcell c 2 j) 0 0 ∗ dutyTok ER (dcell c 3 j) 0 0)
/-- and of all its own semaphores. -/
def toks (c : Dev nD) : sProp 𝕄 := iprop(barToks c ∗ chunkToks c 0 ∗ chunkToks c 1 ∗ chunkToks c 2 ∗ chunkToks c 3)

/-- The nineteen tokens of a device's own semaphores, grouped by chunk. -/
theorem toks_group (c : Dev nD) :
    (bigSep Finset.univ fun k : Fin 19 => (dutyTok ER (kcell (c, tokSem k)) 0 (tokDuty k) : sProp 𝕄)) ⊢ toks c := by
  refine (Entails.of_eq (each_duty c fun g d => (dutyTok ER g 0 d : sProp 𝕄))).trans ?_
  unfold toks barToks chunkToks
  iintro ⟨B0, B1, B2, D00, D01, D02, D03, D10, D11, D12, D13, D20, D21, D22, D23, D30, D31, D32, D33⟩
  iframe

/-- Something for every device is something for every device's neighbour `f c`. -/
theorem around (f : Dev nD → Dev nD) (hf : ∀ c, f (f c) = c) (Φ : Dev nD → sProp (MT nD τ sig Unit (Elt F) ℕ UU ℕ)) :
    bigSep Finset.univ Φ = bigSep Finset.univ fun c => Φ (f c) := bigSep_univ_equiv ⟨f, f, hf, hf⟩ Φ

/-- The tokens a device uses: at its neighbours' barriers, -/
def barUse (c : Dev nD) : sProp 𝕄 := iprop(dutyTok ER (barCell (xp c)) 0 0 ∗ dutyTok ER (barCell (yn c)) 0 1 ∗ dutyTok ER (barCell (zn c)) 0 2)
/-- and for its two transfers of chunk `j`. -/
def chunkUse (c : Dev nD) (j : Fin 4) : sProp 𝕄 := iprop(start1 c j ∗ start2 c j)

/-- The barriers' tokens go to the neighbours that signal there. -/
theorem bar_around : (bigSep Finset.univ fun c : Dev nD => (barToks c : sProp 𝕄)) ⊢ bigSep Finset.univ fun c : Dev nD => (barUse c : sProp 𝕄) := by
  unfold barToks barUse
  simp only [bigSep_sep']
  rw [around xp xp_xp fun c => dutyTok ER (barCell c) 0 0, around yn yn_yn fun c => dutyTok ER (barCell c) 0 1,
    around zn zn_zn fun c => dutyTok ER (barCell c) 0 2]
/-- A chunk's tokens go to the devices whose transfers land there. -/
theorem chunk_around (j : Fin 4) : (bigSep Finset.univ fun c : Dev nD => (chunkToks c j : sProp 𝕄)) ⊢ bigSep Finset.univ fun c : Dev nD => (chunkUse c j : sProp 𝕄) := by
  unfold chunkToks chunkUse start1 start2
  simp only [bigSep_sep']
  rw [around xp xp_xp fun c => dutyTok ER (dcell c 1 j) 0 0, around (fun c => nb c j) (fun c => nb_nb c j) fun c => dutyTok ER (dcell c 3 j) 0 0]
  iintro ⟨H0, H1, H2, H3⟩
  iframe

/-- All the tokens a device uses. -/
def payToks (c : Dev nD) : sProp 𝕄 := iprop(barUse c ∗ chunkUse c 0 ∗ chunkUse c 1 ∗ chunkUse c 2 ∗ chunkUse c 3)
/-- All the tokens go to the devices that use them. -/
theorem toks_around : (bigSep Finset.univ fun c : Dev nD => (toks c : sProp 𝕄)) ⊢ bigSep Finset.univ fun c : Dev nD => payToks c := by
  unfold toks payToks
  simp only [bigSep_sep']
  iintro ⟨HB, H0, H1, H2, H3⟩
  ihave HB := (bar_around (F := F)) $$ HB
  ihave H0 := (chunk_around (F := F) 0) $$ H0
  ihave H1 := (chunk_around (F := F) 1) $$ H1
  ihave H2 := (chunk_around (F := F) 2) $$ H2
  ihave H3 := (chunk_around (F := F) 3) $$ H3
  iframe

/-- A device's places at its seventeen semaphores and the tokens it uses are what its kernel starts from. -/
theorem linear_intro (c : Dev nD) :
    iprop((bigSep Finset.univ fun k : Fin 17 => (atPos ER (kcell (c, k)) 0 ∅ 0 : sProp 𝕄)) ∗ payToks c) ⊢ linear c := by
  rw [each_sem c fun g => atPos ER g 0 ∅ 0]
  unfold payToks barUse chunkUse linear barStart chunkStart
  iintro ⟨⟨PB, D00, D01, D02, D03, D10, D11, D12, D13, D20, D21, D22, D23, D30, D31, D32, D33⟩, TB, ⟨S0, U0⟩, ⟨S1, U1⟩, ⟨S2, U2⟩, S3, U3⟩
  iframe

/-! ## The semaphores at launch and at the end -/

/-- A device's own semaphores at zero, one by one; -/
theorem ownSems0_eq (c : Dev nD) : (Pipeline.ownSems0 (Ix := Unit) (Name := ℕ) (U := UU) (Lvl := ℕ) (Val := Elt F) (τ := τ) osem c : sProp 𝕄)
    = iprop(semVal (dcell c 0 0) 0 ∗ semVal (dcell c 0 1) 0 ∗ semVal (dcell c 0 2) 0 ∗ semVal (dcell c 0 3) 0
        ∗ semVal (dcell c 1 0) 0 ∗ semVal (dcell c 1 1) 0 ∗ semVal (dcell c 1 2) 0 ∗ semVal (dcell c 1 3) 0
        ∗ semVal (dcell c 2 0) 0 ∗ semVal (dcell c 2 1) 0 ∗ semVal (dcell c 2 2) 0 ∗ semVal (dcell c 2 3) 0
        ∗ semVal (dcell c 3 0) 0 ∗ semVal (dcell c 3 1) 0 ∗ semVal (dcell c 3 2) 0 ∗ semVal (dcell c 3 3) 0) := by
  rw [Pipeline.ownSems0_eq_of_list c osem [0, 1, 2, 3, 4, 5, 6, 7, 8, 9, 10, 11, 12, 13, 14, 15] (by decide) (by decide)]; rfl
/-- the one besides them is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of a device's semaphores at zero. -/
theorem sems_start (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, each_sem c fun g => semVal g 0]
  iintro ⟨HO, HB⟩
  iframe
/-- What the kernel leaves is them again. -/
theorem sems_end (c : Dev nD) :
    (done c : sProp 𝕄) ⊢ iprop(unscopedSems0 c ∗ Pipeline.ownSems0 (Ix := Unit) (Name := ℕ) (U := UU) (Lvl := ℕ) (Val := Elt F) (τ := τ) osem c) := by
  rw [ownSems0_eq, unscopedSems0_eq]; unfold done chunkDone
  iintro ⟨HB, ⟨D00, D10, D20, D30⟩, ⟨D01, D11, D21, D31⟩, ⟨D02, D12, D22, D32⟩, ⟨D03, D13, D23, D33⟩⟩
  iframe

end Cert.Gather

end
-- ==== Proof.Credit.lean ====
/- The credit the launch gives each device: what the others owe it. -/
module

public import proofs.«01_k».proof.Proof.Data

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- What a device owes at launch, written out. -/
theorem O₀_eq (d : Dev nD) : O₀ d = 0
    + tallyAt (dcell (nb d 3) 3 3) () N + tallyAt (dcell (nb d 2) 3 2) () N + tallyAt (dcell (nb d 1) 3 1) () N + tallyAt (dcell (nb d 0) 3 0) () N
    + tallyAt (dcell (xp d) 1 3) () N + tallyAt (dcell (xp d) 1 2) () N + tallyAt (dcell (xp d) 1 1) () N + tallyAt (dcell (xp d) 1 0) () N
    + tallyAt (barCell (zn d)) () 1 + tallyAt (barCell (yn d)) () 1 + tallyAt (barCell (xp d)) () 1 := rfl

/-- Units that every device owes one neighbour's semaphore `sm` come to as many at that semaphore of each, and to none at another. -/
theorem sum_tally (f : Dev nD → Dev nD) (hf : ∀ c, f (f c) = c) (sm sm' : SemLoc sig) (n : ℕ) (c : Dev nD) :
    ∑ d : Dev nD, (tallyAt ((f d : Thread nD τ), sm) () n : CellTallies nD τ sig Unit) ((c : Thread nD τ), sm') () = if sm' = sm then n else 0 := by
  have h (d : Dev nD) : (tallyAt ((f d : Thread nD τ), sm) () n : CellTallies nD τ sig Unit) ((c : Thread nD τ), sm') ()
      = if d = f c then (if sm' = sm then n else 0) else 0 := by
    rw [tallyAt_apply]
    by_cases hd : d = f c
    · subst hd
      rw [if_pos rfl, hf]
      by_cases hs : sm' = sm
      · rw [if_pos ⟨by rw [hs], rfl⟩, if_pos hs]
      · rw [if_neg (fun h => hs (congrArg Prod.snd h.1)), if_neg hs]
    · rw [if_neg hd, if_neg (fun h => hd (by
        have e : c = f d := congrArg (fun g : GSem nD τ sig => g.1.1) h.1
        rw [e, hf]))]
  rw [Finset.sum_congr rfl fun d _ => h d, Finset.sum_ite_eq' Finset.univ (f c), if_pos (Finset.mem_univ _)]

/-- All that is owed to the semaphore `sm'` of one device. -/
theorem owed_sum (sm' : SemLoc sig) (c : Dev nD) : ∑ d : Dev nD, O₀ d ((c : Thread nD τ), sm') () = 0
    + (if sm' = .dma (dsem 3 3) then N else 0) + (if sm' = .dma (dsem 3 2) then N else 0) + (if sm' = .dma (dsem 3 1) then N else 0) + (if sm' = .dma (dsem 3 0) then N else 0)
    + (if sm' = .dma (dsem 1 3) then N else 0) + (if sm' = .dma (dsem 1 2) then N else 0) + (if sm' = .dma (dsem 1 1) then N else 0) + (if sm' = .dma (dsem 1 0) then N else 0)
    + (if sm' = .reg barS then 1 else 0) + (if sm' = .reg barS then 1 else 0) + (if sm' = .reg barS then 1 else 0) := by
  simp only [O₀_eq, Pi.add_apply, Finsupp.add_apply, Finset.sum_add_distrib]
  rw [sum_tally (fun d => nb d 3) (fun c => nb_nb c 3), sum_tally (fun d => nb d 2) (fun c => nb_nb c 2), sum_tally (fun d => nb d 1) (fun c => nb_nb c 1),
    sum_tally (fun d => nb d 0) (fun c => nb_nb c 0), sum_tally xp xp_xp, sum_tally xp xp_xp, sum_tally xp xp_xp, sum_tally xp xp_xp, sum_tally zn zn_zn, sum_tally yn yn_yn, sum_tally xp xp_xp]
  simp only [Pi.zero_apply, Finsupp.zero_apply, Finset.sum_const_zero]

/-- A device's barrier is owed three units, -/
theorem owed_at_bar (c : Dev nD) : ∑ d : Dev nD, O₀ d (barCell c) () = 3 := by
  rw [owed_sum]; simp
/-- its receiving semaphore of chunk `j` across x the credit of one transfer, -/
theorem owed_at_fetch (c : Dev nD) (j : Fin 4) : ∑ d : Dev nD, O₀ d (dcell c 1 j) () = N := by
  rw [owed_sum]; fin_cases j <;> simp
/-- and so is its receiving semaphore of forwarded chunk `j`. -/
theorem owed_at_forward (c : Dev nD) (j : Fin 4) : ∑ d : Dev nD, O₀ d (dcell c 3 j) () = N := by
  rw [owed_sum]; fin_cases j <;> simp

/-- The launch's credit at a semaphore that is owed `n` in all is `n`. -/
theorem launch_at (c : Dev nD) (sm : SemLoc sig) (n : ℕ) (h : ∑ d : Dev nD, O₀ d ((c : Thread nD τ), sm) () = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The nine semaphores others pay. -/
def paidSems : List (SemLoc sig) := [.reg barS, .dma (dsem 1 0), .dma (dsem 1 1), .dma (dsem 1 2), .dma (dsem 1 3), .dma (dsem 3 0), .dma (dsem 3 1), .dma (dsem 3 2), .dma (dsem 3 3)]
/-- They are nine different ones. -/
theorem paidSems_nodup : paidSems.Nodup := by decide

/-- The launch's credit, at the semaphores a device waits for. -/
theorem creds (c : Dev nD) : (Pipeline.launchCred O₀ c : sProp 𝕄) ⊢ credits c := by
  have h : (Pipeline.launchCred O₀ c : sProp 𝕄)
      ⊢ bigSepL paidSems fun sm => cred (tallyOn ((c : Thread nD τ), sm) (launchCredit (Pipeline.owing O₀) 0 ((c : Thread nD τ), sm))) := by
    unfold Pipeline.launchCred
    rw [← bigSep_eq_bigSepL_of_eq paidSems rfl paidSems_nodup]
    exact BI.bigSep_subset (Finset.subset_univ paidSems.toFinset)
  refine h.trans ?_
  unfold paidSems credits chunkCred
  show iprop(cred _ ∗ cred _ ∗ cred _ ∗ cred _ ∗ cred _ ∗ cred _ ∗ cred _ ∗ cred _ ∗ cred _) ⊢ _
  rw [launch_at c (.reg barS) 3 (owed_at_bar c), launch_at c _ N (owed_at_fetch c 0), launch_at c _ N (owed_at_fetch c 1), launch_at c _ N (owed_at_fetch c 2),
    launch_at c _ N (owed_at_fetch c 3), launch_at c _ N (owed_at_forward c 0), launch_at c _ N (owed_at_forward c 1), launch_at c _ N (owed_at_forward c 2),
    launch_at c _ N (owed_at_forward c 3)]
  iintro ⟨HB, A0, A1, A2, A3, B0, B1, B2, B3⟩
  iframe

end Cert.Gather

end
-- ==== Proof.Run.lean ====
/- The launch: the eight kernels together, from any memory. -/
module

public import proofs.«01_k».proof.Proof.Body
public import proofs.«01_k».proof.Proof.Deal
public import proofs.«01_k».proof.Proof.Credit
public import Idealize.ShloMosaic.Lib.Pipeline.CollectiveSegs

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The transfers' semaphores are the kernel's own, none of them the staging's. -/
theorem ownSemFacts : Pipeline.OwnSemFacts cfg0.spec osem := by decide
/-- The kernel holds its two arrays at full share. -/
theorem share_eq (c : Dev nD) (w : Fin cfg0.W) : (dats m 0 c).share w = fullShare := by unfold Dat.share; split <;> rfl

/-- What the launch gives device `c` before the devices exchange anything: its semaphores' rounds, its places there, and
    all the tokens of its own semaphores. -/
def G (c : Dev nD) : sProp 𝕄 :=
  iprop((bigSep Finset.univ fun k : Fin 17 => roundState ER (rd m) (kcell (c, k)) 0)
    ∗ ((bigSep Finset.univ fun k : Fin 17 => atPos ER (kcell (c, k)) 0 ∅ 0) ∗ bigSep Finset.univ fun k : Fin 17 => reached ER (kcell (c, k)) 0) ∗ toks c)
/-- What it has after that. -/
def G' (c : Dev nD) : sProp 𝕄 := iprop(∃ K, records m K ∗ linear c)

/-- The allotment of the kernels' rounds, dealt to the devices. -/
theorem fund_gather : BI.own (ER (initOf gatherCells gatherToks)) ⊢ (|==> bigSep Finset.univ (G m) : sProp 𝕄) := by
  have hX (Φ : GSem nD τ sig → sProp 𝕄) : bigSep gatherCells Φ = bigSep Finset.univ fun c : Dev nD => bigSep Finset.univ fun k : Fin 17 => Φ (kcell (c, k)) := by
    unfold gatherCells; rw [bigSep_map, bigSep_univ_prod]; rfl
  have hT : bigSep gatherToks (fun x => (dutyTok ER x.1 x.2.1 x.2.2 : sProp 𝕄)) ⊢ bigSep Finset.univ fun c : Dev nD => toks c := by
    unfold gatherToks; rw [bigSep_map, bigSep_univ_prod]
    exact bigSep_mono fun c _ => toks_group c
  iintro HX
  imod (Rounds.fund ER (rd m) gatherCells gatherToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The invariants of one device's semaphores. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ ((bigSep Finset.univ fun k : Fin 17 => atPos ER (kcell (c, k)) 0 ∅ 0) ∗ bigSep Finset.univ fun k : Fin 17 => reached ER (kcell (c, k)) 0) ∗ toks c) := by
  have hinv : iprop((bigSep Finset.univ fun k : Fin 17 => semVal (kcell (c, k)) 0) ∗ bigSep Finset.univ fun k : Fin 17 => roundState ER (rd m) (kcell (c, k)) 0)
      ⊢ (|={Set.univ}=> bigSep Finset.univ fun k => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hat, Htok⟩
  ihave Hv := (sems_start (F := F) c) $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- The semaphores' invariants with a device's places and the tokens it uses are what that device has then. -/
theorem shared_intro (K : Dev nD × Fin 17 → ℕ) (c : Dev nD) :
    iprop(records m K ∗ (bigSep Finset.univ fun k : Fin 17 => (atPos ER (kcell (c, k)) 0 ∅ 0 : sProp 𝕄)) ∗ payToks c) ⊢ G' m c := by
  unfold G'
  iintro ⟨HR, HL⟩
  iexists K
  isplitl [HR]; · iexact HR
  iapply (linear_intro c); iexact HL

/-- Once every semaphore has its invariant, all devices know all of them, and the tokens go to those who use them. -/
theorem regroup :
    (bigSep Finset.univ fun c : Dev nD => iprop((bigSep Finset.univ fun k => iprop(∃ κ : ℕ, cellInv ER (rd m) κ (kcell (c, k))))
          ∗ ((bigSep Finset.univ fun k : Fin 17 => atPos ER (kcell (c, k)) 0 ∅ 0) ∗ bigSep Finset.univ fun k : Fin 17 => reached ER (kcell (c, k)) 0) ∗ toks c) : sProp 𝕄)
      ⊢ bigSep Finset.univ (G' m) := by
  rw [bigSep_sep', bigSep_sep', bigSep_sep', ← bigSep_univ_prod (fun ck : Dev nD × Fin 17 => iprop(∃ κ : ℕ, cellInv ER (rd m) κ (kcell ck))),
    ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (rd m) κ (kcell ck) : sProp 𝕄))) $$ HI
  icases HK with ⟨%K, #HI⟩
  ihave Htk := (toks_around (F := F)) $$ Htok
  ihave HRs := (BI.bigSep_of_persistent (Finset.univ : Finset (Dev nD)) (records m K)) $$ []
  · unfold records; isplitl <;> iassumption
  have h : (bigSep Finset.univ fun c : Dev nD => iprop(records m K ∗ (bigSep Finset.univ fun k : Fin 17 => atPos ER (kcell (c, k)) 0 ∅ 0) ∗ payToks c) : sProp 𝕄)
      ⊢ bigSep Finset.univ (G' m) := bigSep_mono fun c _ => shared_intro m K c
  iapply h
  rw [bigSep_sep', bigSep_sep']
  iframe HRs Hat Htk

/-- The devices' exchange of tokens at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- What the launch leaves a device is what its kernel starts from; -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- it is so at the kernel's first instant; -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = start m c from rfl]
  iintro ⟨Hs, -, -⟩; iexact Hs

/-- at its last the semaphores go back. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from rfl, scopedRest0_eq]
  iintro H
  ihave H := (sems_end (F := F) c) $$ H
  icases H with ⟨HU, HO⟩
  isplitl [HU]; · iexact HU
  isplitl [HO]; · iexact HO
  iempintro

/-- The staging's own waits are for semaphores below all that a device owes. -/
theorem waits (c : Dev nD) : (levAts L lv : sProp 𝕄) ⊢ Pipeline.cellsWaits cfgs (dats m) () 0 c :=
  Pipeline.cellsWaits_intro cfgs (dats m) () 0 c fun w s t =>
    mayWait_of_above c (.dma _) _ (k := 0) (by fin_cases w <;> fin_cases s <;> exact le_refl 0) (by
      rcases t with ⟨_ | _, ht⟩
      · exact above_O₀ c
      · exact above_zero 0)

/-! ## The run -/

/-- What device `c`'s array `w` holds at the end. -/
def finalA (c : Dev nD) (w : Fin cfg0.W) : Buf (Elt F) ((cfg0.win w).arr.view.loc (c : Thread nD τ)) := (dats m 0 c).arrAt w cfg0.N

set_option maxRecDepth 8000 in
/-- From any memory with every semaphore at zero, for any float values, every fair execution of the program on the eight
    devices ends, with each device's arrays at the contents computed and every semaphore at zero. -/
theorem run_main (ρ : Dev nD → PrngReg) : θ_run defs (onTc (τ := τ) (main (F := F))) ⟨m, fun _ => 0, ρ⟩ (fun r =>
    (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_gather m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument holds what it held. -/
theorem finalA_x (c : Dev nD) : finalA m c (0 : Fin 2) = m ((c : Thread nD τ).loc main_arg0) :=
  (dats (F := F) m 0 c).arrAt_in (0 : Fin 2) rfl _

end Cert.Gather

end
-- ==== Proof.Value.lean ====
/- What the program's result holds: a device's block is its argument, its result array is what the kernel left in its
   buffer, and gathering the blocks of an array gives the array. -/
module

public import proofs.«01_k».proof.Proof.Run
public import Idealize.ShloMosaic.Lib.Layout

@[expose] public section

noncomputable section

namespace Cert.Gather

open Cert.KernelIdeal Cert.KernelIdeal.Gen
open Idealize.ShloMosaic Idealize.ShloMosaic.TcCoe Idealize.SL.Sem Idealize.ShloMosaic.Pipeline

variable {F : FTy → Type} [FloatOps F]
variable (m : (ℓ : Loc nD τ sig) → Buf (Elt F) ℓ)

/-! ## The windows are whole arrays -/

/-- An element of the result's one block is at its own place in the result. -/
theorem blk_out_emb (t : Fin cfg0.N) (i : S1024x512.Idx) : ((cfg0.win 1).blk t).view.emb i = i := by
  funext a; exact Fin.ext (win0_1.rect_emb_val_of_index_zero t a rfl i)

/-- The result array ends with what the kernel left: the gathering of all the devices' arguments. -/
theorem finalA_out (c : Dev nD) :
    finalA m c (1 : Fin 2) = gathered (fun d => m ((d : Thread nD τ).loc main_arg0)) c :=
  (dats (F := F) m 0 c).arrAt_eq_of_cover (1 : Fin 2) (outAt m c)
    (fun t _ => funext fun i => (congrArg (outAt m c) (blk_out_emb t i)).symm)
    (fun i => ⟨t0_0, rfl, by
      have h := ((cfg0.win 1).blk t0_0).view.emb_mem_set i
      rw [blk_out_emb] at h; exact h⟩)

/-! ## Gathering the blocks of an array -/

/-- The device whose block gives row `r` is on the side of axis x that holds row `r`. -/
theorem srcOf_side (c : Dev nD) (r : ℕ) (hr : r < 1024) : (srcOf c r).val / 4 = r / 512 := by
  have hc : c.val < 8 := c.isLt
  unfold srcOf
  split
  · omega
  · split
    · show (c.val + 4) % 8 / 4 = r / 512
      omega
    · have h4 := nb_side c (r / 64)
      have hn : (nb c (r / 64)).val < 8 := (nb c (r / 64)).isLt
      show ((nb c (r / 64)).val + 4) % 8 / 4 = r / 512
      omega

/-- The gathering of the blocks of an array cut in two by rows along axis x is the array, on every device. -/
theorem gathered_blocks (X : S1024x512.Idx → Elt F .f32) (c : Dev nD) :
    gathered (F := F) (fun d => Layout.blockN (⟨2, ![512, 512]⟩ : Shape) (⟨2, ![1024, 512]⟩ : Shape)
      (Layout.meshBlock [2, 2, 2] ![[0], []] d) X) c = X := by
  funext i
  have hi : (i 0 : ℕ) < 1024 := (i 0).isLt
  have hs := srcOf_side c (i 0) hi
  have hlt : (srcOf c (i 0)).val < 8 := (srcOf c (i 0)).isLt
  refine congrArg X (funext fun a => Fin.ext ?_)
  rw [Layout.TilesN.idx_val]
  match a with
  | ⟨0, _⟩ =>
    show ((srcOf c (i 0)).val / 4 % 2 * 1 + 0) * 512 + (i 0 : ℕ) % 512 = (i 0 : ℕ)
    omega
  | ⟨1, _⟩ =>
    show 0 * 512 + (i 1 : ℕ) = (i 1 : ℕ)
    omega

end Cert.Gather

end
-- ==== Proof.Reference.lean ====
/- The reference's run: it returns its argument, so it has no operation. -/
module

public import proofs.«01_k».proof.Proof.Gen.ReferenceIdeal
public import Idealize.ShloMosaic.Lib.Quiescent
public import Idealize.ShloMosaic.Lib.StableHlo.Run

@[expose] public section

noncomputable section

namespace Cert.GatherRef

open Cert.ReferenceIdeal Cert.ReferenceIdeal.Gen
open Idealize.ShloMosaic Idealize.ShloMosaic.TcCoe Idealize.SL.Sem

variable {F : FTy → Type} [FloatOps F]

/-- Every execution of the reference ends, with its argument as it was and every semaphore at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.GatherRef

end
-- ==== Proof.lean ====
/- The proof of the five claims about the all-gather: every execution of the program and of its idealized text ends with
   the arguments unchanged and every semaphore at zero, and so does the reference; idealizing changed nothing; and every
   device ends holding the reference's result. -/
module

public import proofs.«01_k».proof.Defs
public import proofs.«01_k».proof.Proof.Gen.Kernel
public import proofs.«01_k».proof.Proof.Value
public import proofs.«01_k».proof.Proof.Reference

@[expose] public section

noncomputable section

namespace Cert.Proof

open Idealize.ShloMosaic Idealize.SL.Sem

/-- The program and its idealized text have the same kernel, -/
theorem defs₀_same : Cert.Kernel.defs₀ (F := Bits) = Cert.KernelIdeal.defs₀ (F := Bits) :=
  congrArg Defs.onTc (funext fun ℓ => funext fun a => match ℓ, a with
    | ⟨0, _⟩, (_, _) => rfl
    | ⟨_ + 1, h⟩, _ => absurd h (Nat.not_lt.2 (Nat.le_add_left _ _)))

/-- and so the same table of what they run. -/
theorem defs_same : Cert.Kernel.defs (F := Bits) = Cert.KernelIdeal.defs (F := Bits) :=
  congrArg (Pipeline.defs Cert.KernelIdeal.pcfgs) defs₀_same

/-- The program, over bit patterns: it ends, its argument unchanged, its semaphores at zero. The text is the idealized
    one's, whose run holds for any float values. -/
theorem frame_kernel : Cert.quiescent_Kernel := fun m ρ _ => by
  rw [defs_same]
  exact (θ_run Cert.KernelIdeal.defs _ _).mono (fun _ h => ⟨fun c => (h.1 c (0 : Fin 2)).trans (Cert.Gather.finalA_x m c), h.2⟩)
    (Cert.Gather.run_main (F := Bits) m ρ)

/-- The idealized program: the same. -/
theorem frame_ideal : Cert.quiescent_KernelIdeal := fun m ρ _ =>
  (θ_run Cert.KernelIdeal.defs _ _).mono (fun _ h => ⟨fun c => (h.1 c (0 : Fin 2)).trans (Cert.Gather.finalA_x m c), h.2⟩)
    (Cert.Gather.run_main m ρ)

/-- The reference: it ends, its argument unchanged, its semaphores at zero. -/
theorem frame_reference : Cert.quiescent_ReferenceIdeal := fun m ρ _ => Cert.GatherRef.run_ref m ρ

/-- No rule was applied. -/
theorem preserves : Cert.preserves_Kernel_KernelIdeal := trivial

/-- From blocks of one array cut in two by rows along axis x, every device's result is the whole array, which is what the
    reference returns. -/
theorem gathers : Cert.algebraic_KernelIdeal_ReferenceIdeal := fun m ρ m' ρ' _ hagree =>
  ⟨m' (((0 : Dev Cert.ReferenceIdeal.nD).tc : Thread _ Cert.ReferenceIdeal.τ).loc Cert.ReferenceIdeal.main_arg0),
    (θ_run Cert.KernelIdeal.defs _ _).mono
      (fun _ h c => ⟨(h.1 c (1 : Fin 2)).trans ((Cert.Gather.finalA_out m c).trans
          ((congrArg (fun X => Cert.Gather.gathered X c) (funext hagree)).trans (Cert.Gather.gathered_blocks _ c))),
        (h.1 c (0 : Fin 2)).trans (Cert.Gather.finalA_x m c)⟩)
      (Cert.Gather.run_main m ρ),
    (θ_run Cert.ReferenceIdeal.defs _ _).mono (fun _ h => ⟨h.1 0, h.1 0⟩) (Cert.GatherRef.run_ref m' ρ')⟩

/-- The five claims. -/
theorem claim : Cert.Claim := ⟨Cert.Kernel.Gen.facts, Cert.KernelIdeal.Gen.facts, Cert.ReferenceIdeal.Gen.facts,
  frame_kernel, frame_ideal, frame_reference, preserves, gathers⟩

end Cert.Proof

end
